-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_v159) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x256x256 : Shape := ⟨3, ![8, 256, 256]⟩
abbrev S8x256 : Shape := ⟨2, ![8, 256]⟩
abbrev S10x256 : Shape := ⟨2, ![10, 256]⟩
abbrev S256x256 : Shape := ⟨2, ![256, 256]⟩
abbrev S256 : Shape := ⟨1, ![256]⟩
abbrev S3x256x256 : Shape := ⟨3, ![3, 256, 256]⟩
abbrev S3x256 : Shape := ⟨2, ![3, 256]⟩
abbrev S3x1x512 : Shape := ⟨3, ![3, 1, 512]⟩
abbrev S3x1 : Shape := ⟨2, ![3, 1]⟩
abbrev S128x256 : Shape := ⟨2, ![128, 256]⟩
abbrev S128 : Shape := ⟨1, ![128]⟩
abbrev S1x128 : Shape := ⟨2, ![1, 128]⟩
abbrev S1 : Shape := ⟨1, ![1]⟩
abbrev S8x128 : Shape := ⟨2, ![8, 128]⟩
abbrev S8 : Shape := ⟨1, ![8]⟩
abbrev S_ : Shape := ⟨0, ![]⟩
abbrev S1x1 : Shape := ⟨2, ![1, 1]⟩

class Facts : Prop where
  bcast_S_S8x256 : S_.BroadcastsInDim S8x256 (![] : Fin 0 → Fin S8x256.rank)
  bcast_S_S1 : S_.BroadcastsInDim S1 (![] : Fin 0 → Fin S1.rank)
  bcast_S1_S1x1_1 : S1.BroadcastsInDim S1x1 (![1] : Fin 1 → Fin S1x1.rank)
  bcast_S1x1_S8x256_0_1 : S1x1.BroadcastsInDim S8x256 (![0, 1] : Fin 2 → Fin S8x256.rank)

variable [Facts]

def fn {F : FTy → Type} [FloatOps F] (main_arg0 : FVec F S8x256x256 .f32) (main_arg1 : FVec F S8x256x256 .f32) (main_arg2 : IVec S8x256 32) (main_arg3 : FVec F S10x256 .f32) (main_arg4 : FVec F S256x256 .f32) (main_arg5 : FVec F S256 .f32) (main_arg6 : FVec F S3x256x256 .f32) (main_arg7 : FVec F S3x256 .f32) (main_arg8 : FVec F S3x1x512 .f32) (main_arg9 : FVec F S3x1 .f32) (main_arg10 : FVec F S128x256 .f32) (main_arg11 : FVec F S128 .f32) (main_arg12 : FVec F S1x128 .f32) (main_arg13 : FVec F S1 .f32) (main_arg14 : FVec F S128x256 .f32) (main_arg15 : FVec F S128 .f32) (main_arg16 : FVec F S8x128 .f32) (main_arg17 : FVec F S8 .f32) : IVec S8x256 1 :=
  let main_c : IVec S_ 32 := constantI S_ 32 0#32
  let main_v0 : IVec S8x256 32 := broadcastInDim S8x256 ![] bcast_S_S8x256 main_c
  let main_v1 : IVec S8x256 1 := cmpi .sge main_arg2 main_v0
  let main_c_0 : IVec S_ 32 := constantI S_ 32 10#32
  let main_v2 : IVec S8x256 32 := broadcastInDim S8x256 ![] bcast_S_S8x256 main_c_0
  let main_v3 : IVec S8x256 1 := cmpi .slt main_arg2 main_v2
  let main_v4 : IVec S8x256 1 := andi main_v1 main_v3
  let main_v5 : FVec F S1 .f32 := Host.absf main_arg13
  let main_cst : FVec F S_ .f32 := constant S_ .f32 0x7F800000#32
  let main_v6 : FVec F S1 .f32 := broadcastInDim S1 ![] bcast_S_S1 main_cst
  let main_v7 : IVec S1 1 := cmpf .olt main_v5 main_v6
  let main_v8 : IVec S1x1 1 := broadcastInDim S1x1 ![1] bcast_S1_S1x1_1 main_v7
  let main_v9 : IVec S8x256 1 := broadcastInDim S8x256 ![0, 1] bcast_S1x1_S8x256_0_1 main_v8
  let main_v10 : IVec S8x256 1 := andi main_v4 main_v9
  main_v10
-- ==== Kernel.lean ====
abbrev S8x256x256 : Shape := ⟨3, ![8, 256, 256]⟩
abbrev S8x256 : Shape := ⟨2, ![8, 256]⟩
abbrev S10x256 : Shape := ⟨2, ![10, 256]⟩
abbrev S256x256 : Shape := ⟨2, ![256, 256]⟩
abbrev S256 : Shape := ⟨1, ![256]⟩
abbrev S3x256x256 : Shape := ⟨3, ![3, 256, 256]⟩
abbrev S3x256 : Shape := ⟨2, ![3, 256]⟩
abbrev S3x1x512 : Shape := ⟨3, ![3, 1, 512]⟩
abbrev S3x1 : Shape := ⟨2, ![3, 1]⟩
abbrev S128x256 : Shape := ⟨2, ![128, 256]⟩
abbrev S128 : Shape := ⟨1, ![128]⟩
abbrev S1x128 : Shape := ⟨2, ![1, 128]⟩
abbrev S1 : Shape := ⟨1, ![1]⟩
abbrev S8x128 : Shape := ⟨2, ![8, 128]⟩
abbrev S8 : Shape := ⟨1, ![8]⟩
abbrev S2048x256 : Shape := ⟨2, ![2048, 256]⟩
abbrev S2048x1 : Shape := ⟨2, ![2048, 1]⟩
abbrev S1x256 : Shape := ⟨2, ![1, 256]⟩
abbrev S3x512 : Shape := ⟨2, ![3, 512]⟩
abbrev S1x8 : Shape := ⟨2, ![1, 8]⟩
abbrev S8x8 : Shape := ⟨2, ![8, 8]⟩
abbrev S1x256x256 : Shape := ⟨3, ![1, 256, 256]⟩
abbrev S2048x10 : Shape := ⟨2, ![2048, 10]⟩
abbrev S1x2048 : Shape := ⟨2, ![1, 2048]⟩
abbrev S1x1 : Shape := ⟨2, ![1, 1]⟩
abbrev S2048x128 : Shape := ⟨2, ![2048, 128]⟩
abbrev S256x1 : Shape := ⟨2, ![256, 1]⟩
abbrev S1x256x1 : Shape := ⟨3, ![1, 256, 1]⟩
abbrev S1x1x1 : Shape := ⟨3, ![1, 1, 1]⟩

abbrev nBuf : Space → Nat
  | .hbm => 27
  | .vmem => 19
  | .smem => 0
  | _ => 0

abbrev bufTy : (tb : Table) → Fin (tcTables nBuf tb) → BufTy
  | .hbm, ⟨0, _⟩ => ⟨S8x256x256, .f32⟩
  | .hbm, ⟨1, _⟩ => ⟨S8x256x256, .f32⟩
  | .hbm, ⟨2, _⟩ => ⟨S8x256, .i32⟩
  | .hbm, ⟨3, _⟩ => ⟨S10x256, .f32⟩
  | .hbm, ⟨4, _⟩ => ⟨S256x256, .f32⟩
  | .hbm, ⟨5, _⟩ => ⟨S256, .f32⟩
  | .hbm, ⟨6, _⟩ => ⟨S3x256x256, .f32⟩
  | .hbm, ⟨7, _⟩ => ⟨S3x256, .f32⟩
  | .hbm, ⟨8, _⟩ => ⟨S3x1x512, .f32⟩
  | .hbm, ⟨9, _⟩ => ⟨S3x1, .f32⟩
  | .hbm, ⟨10, _⟩ => ⟨S128x256, .f32⟩
  | .hbm, ⟨11, _⟩ => ⟨S128, .f32⟩
  | .hbm, ⟨12, _⟩ => ⟨S1x128, .f32⟩
  | .hbm, ⟨13, _⟩ => ⟨S1, .f32⟩
  | .hbm, ⟨14, _⟩ => ⟨S128x256, .f32⟩
  | .hbm, ⟨15, _⟩ => ⟨S128, .f32⟩
  | .hbm, ⟨16, _⟩ => ⟨S8x128, .f32⟩
  | .hbm, ⟨17, _⟩ => ⟨S8, .f32⟩
  | .hbm, ⟨18, _⟩ => ⟨S2048x256, .f32⟩
  | .hbm, ⟨19, _⟩ => ⟨S2048x1, .i32⟩
  | .hbm, ⟨20, _⟩ => ⟨S1x256, .f32⟩
  | .hbm, ⟨21, _⟩ => ⟨S3x512, .f32⟩
  | .hbm, ⟨22, _⟩ => ⟨S1x128, .f32⟩
  | .hbm, ⟨23, _⟩ => ⟨S1x128, .f32⟩
  | .hbm, ⟨24, _⟩ => ⟨S1x8, .f32⟩
  | .hbm, ⟨25, _⟩ => ⟨S8x8, .f32⟩
  | .hbm, ⟨26, _⟩ => ⟨S8x256, .f32⟩
  | .local _ .vmem, ⟨0, _⟩ => ⟨S2048x256, .f32⟩
  | .local _ .vmem, ⟨1, _⟩ => ⟨S1x256x256, .f32⟩
  | .local _ .vmem, ⟨2, _⟩ => ⟨S2048x1, .i32⟩
  | .local _ .vmem, ⟨3, _⟩ => ⟨S10x256, .f32⟩
  | .local _ .vmem, ⟨4, _⟩ => ⟨S256x256, .f32⟩
  | .local _ .vmem, ⟨5, _⟩ => ⟨S1x256, .f32⟩
  | .local _ .vmem, ⟨6, _⟩ => ⟨S3x256x256, .f32⟩
  | .local _ .vmem, ⟨7, _⟩ => ⟨S3x256, .f32⟩
  | .local _ .vmem, ⟨8, _⟩ => ⟨S3x512, .f32⟩
  | .local _ .vmem, ⟨9, _⟩ => ⟨S3x1, .f32⟩
  | .local _ .vmem, ⟨10, _⟩ => ⟨S128x256, .f32⟩
  | .local _ .vmem, ⟨11, _⟩ => ⟨S1x128, .f32⟩
  | .local _ .vmem, ⟨12, _⟩ => ⟨S1x128, .f32⟩
  | .local _ .vmem, ⟨13, _⟩ => ⟨S128x256, .f32⟩
  | .local _ .vmem, ⟨14, _⟩ => ⟨S1x128, .f32⟩
  | .local _ .vmem, ⟨15, _⟩ => ⟨S8x128, .f32⟩
  | .local _ .vmem, ⟨16, _⟩ => ⟨S1x8, .f32⟩
  | .local _ .vmem, ⟨17, _⟩ => ⟨S8x8, .f32⟩
  | .local _ .vmem, ⟨18, _⟩ => ⟨S8x256, .f32⟩
  | _, _ => ⟨S8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_v0_0 : Ref sig .tc := ⟨.hbm, 25, rfl⟩
abbrev main_v0_1 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S8x256x256 : Shape := ⟨3, ![8, 256, 256]⟩
abbrev S8x256 : Shape := ⟨2, ![8, 256]⟩
abbrev S10x256 : Shape := ⟨2, ![10, 256]⟩
abbrev S256x256 : Shape := ⟨2, ![256, 256]⟩
abbrev S256 : Shape := ⟨1, ![256]⟩
abbrev S3x256x256 : Shape := ⟨3, ![3, 256, 256]⟩
abbrev S3x256 : Shape := ⟨2, ![3, 256]⟩
abbrev S3x1x512 : Shape := ⟨3, ![3, 1, 512]⟩
abbrev S3x1 : Shape := ⟨2, ![3, 1]⟩
abbrev S128x256 : Shape := ⟨2, ![128, 256]⟩
abbrev S128 : Shape := ⟨1, ![128]⟩
abbrev S1x128 : Shape := ⟨2, ![1, 128]⟩
abbrev S1 : Shape := ⟨1, ![1]⟩
abbrev S8x128 : Shape := ⟨2, ![8, 128]⟩
abbrev S8 : Shape := ⟨1, ![8]⟩
abbrev S_ : Shape := ⟨0, ![]⟩
abbrev S8x256x1 : Shape := ⟨3, ![8, 256, 1]⟩
abbrev S1x1x1 : Shape := ⟨3, ![1, 1, 1]⟩
abbrev S1x1x256 : Shape := ⟨3, ![1, 1, 256]⟩
abbrev S1x256x256 : Shape := ⟨3, ![1, 256, 256]⟩
abbrev S1x256 : Shape := ⟨2, ![1, 256]⟩
abbrev S1x1x512 : Shape := ⟨3, ![1, 1, 512]⟩
abbrev S1x512 : Shape := ⟨2, ![1, 512]⟩
abbrev S8x1x256 : Shape := ⟨3, ![8, 1, 256]⟩
abbrev S1x1 : Shape := ⟨2, ![1, 1]⟩
abbrev S256x128 : Shape := ⟨2, ![256, 128]⟩
abbrev S8x256x128 : Shape := ⟨3, ![8, 256, 128]⟩
abbrev S1x1x128 : Shape := ⟨3, ![1, 1, 128]⟩
abbrev S128x1 : Shape := ⟨2, ![128, 1]⟩
abbrev S8x1 : Shape := ⟨2, ![8, 1]⟩
abbrev S8x1x1 : Shape := ⟨3, ![8, 1, 1]⟩
abbrev S128x8 : Shape := ⟨2, ![128, 8]⟩
abbrev S8x8 : Shape := ⟨2, ![8, 8]⟩
abbrev S1x8 : Shape := ⟨2, ![1, 8]⟩

abbrev nBuf : Space → Nat
  | .hbm => 230
  | .vmem => 0
  | .smem => 0
  | _ => 0

abbrev hbmTy0_0 (i : Nat) : BufTy := match i % 128 with
  | 0 => ⟨S8x256x256, .f32⟩
  | 1 => ⟨S8x256x256, .f32⟩
  | 2 => ⟨S8x256, .i32⟩
  | 3 => ⟨S10x256, .f32⟩
  | 4 => ⟨S256x256, .f32⟩
  | 5 => ⟨S256, .f32⟩
  | 6 => ⟨S3x256x256, .f32⟩
  | 7 => ⟨S3x256, .f32⟩
  | 8 => ⟨S3x1x512, .f32⟩
  | 9 => ⟨S3x1, .f32⟩
  | 10 => ⟨S128x256, .f32⟩
  | 11 => ⟨S128, .f32⟩
  | 12 => ⟨S1x128, .f32⟩
  | 13 => ⟨S1, .f32⟩
  | 14 => ⟨S128x256, .f32⟩
  | 15 => ⟨S128, .f32⟩
  | 16 => ⟨S8x128, .f32⟩
  | 17 => ⟨S8, .f32⟩
  | 18 => ⟨S_, .i32⟩
  | 19 => ⟨S8x256, .i32⟩
  | 20 => ⟨S8x256, .i1⟩
  | 21 => ⟨S_, .i32⟩
  | 22 => ⟨S8x256, .i32⟩
  | 23 => ⟨S8x256, .i32⟩
  | 24 => ⟨S8x256, .i32⟩
  | 25 => ⟨S8x256x1, .i32⟩
  | 26 => ⟨S1, .i32⟩
  | 27 => ⟨S_, .i32⟩
  | 28 => ⟨S8x256x1, .i32⟩
  | 29 => ⟨S8x256x1, .i1⟩
  | 30 => ⟨S1x1x1, .i32⟩
  | 31 => ⟨S8x256x1, .i32⟩
  | 32 => ⟨S8x256x1, .i1⟩
  | 33 => ⟨S8x256x1, .i1⟩
  | 34 => ⟨S_, .i1⟩
  | 35 => ⟨S8x256, .i1⟩
  | 36 => ⟨S8x256x256, .f32⟩
  | 37 => ⟨S8x256x256, .i1⟩
  | 38 => ⟨S_, .f32⟩
  | 39 => ⟨S8x256x256, .f32⟩
  | 40 => ⟨S8x256x256, .f32⟩
  | 41 => ⟨S256x256, .f32⟩
  | 42 => ⟨S8x256x256, .f32⟩
  | 43 => ⟨S1x1x256, .f32⟩
  | 44 => ⟨S8x256x256, .f32⟩
  | 45 => ⟨S8x256x256, .f32⟩
  | 46 => ⟨S8x256x256, .f32⟩
  | 47 => ⟨S1x256x256, .f32⟩
  | 48 => ⟨S256x256, .f32⟩
  | 49 => ⟨S_, .f32⟩
  | 50 => ⟨S256x256, .f32⟩
  | 51 => ⟨S256x256, .i1⟩
  | 52 => ⟨S256x256, .f32⟩
  | 53 => ⟨S1x256x256, .f32⟩
  | 54 => ⟨S256x256, .f32⟩
  | 55 => ⟨S256x256, .f32⟩
  | 56 => ⟨S8x256x256, .f32⟩
  | 57 => ⟨S1x256, .f32⟩
  | 58 => ⟨S256, .f32⟩
  | 59 => ⟨S1x1x256, .f32⟩
  | 60 => ⟨S8x256x256, .f32⟩
  | 61 => ⟨S8x256x256, .f32⟩
  | 62 => ⟨S1x1x512, .f32⟩
  | 63 => ⟨S1x512, .f32⟩
  | 64 => ⟨S1x256, .f32⟩
  | 65 => ⟨S256, .f32⟩
  | 66 => ⟨S1x1x512, .f32⟩
  | 67 => ⟨S1x512, .f32⟩
  | 68 => ⟨S1x256, .f32⟩
  | 69 => ⟨S256, .f32⟩
  | 70 => ⟨S8x256, .f32⟩
  | 71 => ⟨S8x256, .f32⟩
  | 72 => ⟨S8x256x1, .f32⟩
  | 73 => ⟨S8x1x256, .f32⟩
  | 74 => ⟨S8x256x256, .f32⟩
  | 75 => ⟨S8x256x256, .f32⟩
  | 76 => ⟨S8x256x256, .f32⟩
  | 77 => ⟨S1x1, .f32⟩
  | 78 => ⟨S1, .f32⟩
  | 79 => ⟨S_, .f32⟩
  | 80 => ⟨S8x256x256, .f32⟩
  | 81 => ⟨S8x256x256, .f32⟩
  | 82 => ⟨S8x256x256, .f32⟩
  | 83 => ⟨S8x256x256, .f32⟩
  | 84 => ⟨S_, .f32⟩
  | 85 => ⟨S8x256x256, .f32⟩
  | 86 => ⟨S8x256x256, .f32⟩
  | 87 => ⟨S_, .f32⟩
  | 88 => ⟨S8x256x256, .f32⟩
  | 89 => ⟨S8x256x256, .f32⟩
  | 90 => ⟨S1x256x256, .f32⟩
  | 91 => ⟨S8x256x256, .f32⟩
  | 92 => ⟨S8x256x256, .f32⟩
  | 93 => ⟨S8x256x256, .f32⟩
  | 94 => ⟨S8x256x256, .f32⟩
  | 95 => ⟨S_, .f32⟩
  | 96 => ⟨S8x256x256, .f32⟩
  | 97 => ⟨S8x256x256, .f32⟩
  | 98 => ⟨S1x256x256, .f32⟩
  | 99 => ⟨S256x256, .f32⟩
  | 100 => ⟨S256x256, .f32⟩
  | 101 => ⟨S8x256x256, .f32⟩
  | 102 => ⟨S1x256, .f32⟩
  | 103 => ⟨S256, .f32⟩
  | 104 => ⟨S1x1x256, .f32⟩
  | 105 => ⟨S8x256x256, .f32⟩
  | 106 => ⟨S8x256x256, .f32⟩
  | 107 => ⟨S1x1x512, .f32⟩
  | 108 => ⟨S1x512, .f32⟩
  | 109 => ⟨S1x256, .f32⟩
  | 110 => ⟨S256, .f32⟩
  | 111 => ⟨S1x1x512, .f32⟩
  | 112 => ⟨S1x512, .f32⟩
  | 113 => ⟨S1x256, .f32⟩
  | 114 => ⟨S256, .f32⟩
  | 115 => ⟨S8x256, .f32⟩
  | 116 => ⟨S8x256, .f32⟩
  | 117 => ⟨S8x256x1, .f32⟩
  | 118 => ⟨S8x1x256, .f32⟩
  | 119 => ⟨S8x256x256, .f32⟩
  | 120 => ⟨S8x256x256, .f32⟩
  | 121 => ⟨S8x256x256, .f32⟩
  | 122 => ⟨S1x1, .f32⟩
  | 123 => ⟨S1, .f32⟩
  | 124 => ⟨S_, .f32⟩
  | 125 => ⟨S8x256x256, .f32⟩
  | 126 => ⟨S8x256x256, .f32⟩
  | 127 => ⟨S8x256x256, .f32⟩
  | _ => ⟨S8x256x256, .f32⟩

abbrev hbmTy0_1 (i : Nat) : BufTy := match i % 128 with
  | 0 => ⟨S8x256x256, .f32⟩
  | 1 => ⟨S_, .f32⟩
  | 2 => ⟨S8x256x256, .f32⟩
  | 3 => ⟨S8x256x256, .f32⟩
  | 4 => ⟨S_, .f32⟩
  | 5 => ⟨S8x256x256, .f32⟩
  | 6 => ⟨S8x256x256, .f32⟩
  | 7 => ⟨S1x256x256, .f32⟩
  | 8 => ⟨S8x256x256, .f32⟩
  | 9 => ⟨S8x256x256, .f32⟩
  | 10 => ⟨S8x256x256, .f32⟩
  | 11 => ⟨S8x256x256, .f32⟩
  | 12 => ⟨S_, .f32⟩
  | 13 => ⟨S8x256x256, .f32⟩
  | 14 => ⟨S8x256x256, .f32⟩
  | 15 => ⟨S1x256x256, .f32⟩
  | 16 => ⟨S256x256, .f32⟩
  | 17 => ⟨S256x256, .f32⟩
  | 18 => ⟨S8x256x256, .f32⟩
  | 19 => ⟨S1x256, .f32⟩
  | 20 => ⟨S256, .f32⟩
  | 21 => ⟨S1x1x256, .f32⟩
  | 22 => ⟨S8x256x256, .f32⟩
  | 23 => ⟨S8x256x256, .f32⟩
  | 24 => ⟨S1x1x512, .f32⟩
  | 25 => ⟨S1x512, .f32⟩
  | 26 => ⟨S1x256, .f32⟩
  | 27 => ⟨S256, .f32⟩
  | 28 => ⟨S1x1x512, .f32⟩
  | 29 => ⟨S1x512, .f32⟩
  | 30 => ⟨S1x256, .f32⟩
  | 31 => ⟨S256, .f32⟩
  | 32 => ⟨S8x256, .f32⟩
  | 33 => ⟨S8x256, .f32⟩
  | 34 => ⟨S8x256x1, .f32⟩
  | 35 => ⟨S8x1x256, .f32⟩
  | 36 => ⟨S8x256x256, .f32⟩
  | 37 => ⟨S8x256x256, .f32⟩
  | 38 => ⟨S8x256x256, .f32⟩
  | 39 => ⟨S1x1, .f32⟩
  | 40 => ⟨S1, .f32⟩
  | 41 => ⟨S_, .f32⟩
  | 42 => ⟨S8x256x256, .f32⟩
  | 43 => ⟨S8x256x256, .f32⟩
  | 44 => ⟨S8x256x256, .f32⟩
  | 45 => ⟨S8x256x256, .f32⟩
  | 46 => ⟨S_, .f32⟩
  | 47 => ⟨S8x256x256, .f32⟩
  | 48 => ⟨S8x256x256, .f32⟩
  | 49 => ⟨S_, .f32⟩
  | 50 => ⟨S8x256x256, .f32⟩
  | 51 => ⟨S8x256x256, .f32⟩
  | 52 => ⟨S1x256x256, .f32⟩
  | 53 => ⟨S8x256x256, .f32⟩
  | 54 => ⟨S8x256x256, .f32⟩
  | 55 => ⟨S8x256x256, .f32⟩
  | 56 => ⟨S8x256x256, .f32⟩
  | 57 => ⟨S_, .f32⟩
  | 58 => ⟨S8x256x256, .f32⟩
  | 59 => ⟨S8x256x256, .f32⟩
  | 60 => ⟨S256x128, .f32⟩
  | 61 => ⟨S8x256x128, .f32⟩
  | 62 => ⟨S1x1x128, .f32⟩
  | 63 => ⟨S8x256x128, .f32⟩
  | 64 => ⟨S8x256x128, .f32⟩
  | 65 => ⟨S8x256x128, .f32⟩
  | 66 => ⟨S128x1, .f32⟩
  | 67 => ⟨S8x256x1, .f32⟩
  | 68 => ⟨S1x1x1, .f32⟩
  | 69 => ⟨S8x256x1, .f32⟩
  | 70 => ⟨S8x256x1, .f32⟩
  | 71 => ⟨S_, .f32⟩
  | 72 => ⟨S8x1, .f32⟩
  | 73 => ⟨S_, .f32⟩
  | 74 => ⟨S8x1, .f32⟩
  | 75 => ⟨S8x1, .f32⟩
  | 76 => ⟨S8x1x1, .f32⟩
  | 77 => ⟨S8x256x1, .f32⟩
  | 78 => ⟨S8x256x1, .f32⟩
  | 79 => ⟨S8x256x1, .f32⟩
  | 80 => ⟨S_, .f32⟩
  | 81 => ⟨S8x1, .f32⟩
  | 82 => ⟨S8x1x1, .f32⟩
  | 83 => ⟨S8x256x1, .f32⟩
  | 84 => ⟨S8x256x1, .f32⟩
  | 85 => ⟨S8x256x256, .f32⟩
  | 86 => ⟨S8x256x256, .f32⟩
  | 87 => ⟨S_, .f32⟩
  | 88 => ⟨S8x256, .f32⟩
  | 89 => ⟨S256x128, .f32⟩
  | 90 => ⟨S8x128, .f32⟩
  | 91 => ⟨S1x128, .f32⟩
  | 92 => ⟨S8x128, .f32⟩
  | 93 => ⟨S8x128, .f32⟩
  | 94 => ⟨S_, .f32⟩
  | 95 => ⟨S8x128, .f32⟩
  | 96 => ⟨S8x128, .f32⟩
  | 97 => ⟨S128x8, .f32⟩
  | 98 => ⟨S8x8, .f32⟩
  | 99 => ⟨S1x8, .f32⟩
  | 100 => ⟨S8x8, .f32⟩
  | 101 => ⟨S8x8, .f32⟩
  | _ => ⟨S8x256x256, .f32⟩

abbrev hbmTy (i : Nat) : BufTy := match i / 128 with
  | 0 => hbmTy0_0 i
  | 1 => hbmTy0_1 i
  | _ => ⟨S8x256x256, .f32⟩

abbrev bufTy : (tb : Table) → Fin (tcTables nBuf tb) → BufTy
  | .hbm, ⟨i, _⟩ => hbmTy i
  | _, _ => ⟨S8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_cst : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_0 : Ref sig .tc := ⟨.hbm, 84, rfl⟩
abbrev main_v43 : Ref sig .tc := ⟨.hbm, 85, rfl⟩
abbrev main_v44 : Ref sig .tc := ⟨.hbm, 86, rfl⟩
abbrev main_cst_1 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_call1_cst : Ref sig .tc := ⟨.hbm, 95, rfl⟩
abbrev main_call1_v0 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_cst_2 : Ref sig .tc := ⟨.hbm, 129, rfl⟩
abbrev main_v84 : Ref sig .tc := ⟨.hbm, 130, rfl⟩
abbrev main_v85 : Ref sig .tc := ⟨.hbm, 131, rfl⟩
abbrev main_cst_3 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_call2_cst : Ref sig .tc := ⟨.hbm, 140, rfl⟩
abbrev main_call2_v0 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_4 : Ref sig .tc := ⟨.hbm, 174, rfl⟩
abbrev main_v125 : Ref sig .tc := ⟨.hbm, 175, rfl⟩
abbrev main_v126 : Ref sig .tc := ⟨.hbm, 176, rfl⟩
abbrev main_cst_5 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_call3_cst : Ref sig .tc := ⟨.hbm, 185, rfl⟩
abbrev main_call3_v0 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_cst_6 : Ref sig .tc := ⟨.hbm, 199, rfl⟩
abbrev main_v146 : Ref sig .tc := ⟨.hbm, 200, rfl⟩
abbrev main_cst_7 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_cst_8 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_cst_9 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_call4_cst : Ref sig .tc := ⟨.hbm, 222, rfl⟩
abbrev main_call4_v0 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩

abbrev nD : Nat := 1
abbrev τ : Topo := Topo.v7x

variable {F : FTy → Type} [FloatOps F]
-- ==== Proof.Math.lean ====
/- Arithmetic on the extended reals that both programs' results come down to: the kernel writes the logistic
   function as half a hyperbolic tangent plus a half, with the half moved into the attention weights, and leaves out
   the pooling bias, which cancels in a softmax. Nothing here speaks of either program. -/
module

public import Idealize.ShloMosaic.Lib.Pointwise
public import Idealize.ShloMosaic.PureOps.Ideal

@[expose] public section

noncomputable section

namespace Gat

open Idealize.ShloMosaic

/-- One half, as an extended real. -/
abbrev half : EReal := ((1 / 2 : ℝ) : EReal)

/-- The float32 word `0x3F000000` denotes one half. -/
theorem ofBits_half : Ideal.ofBits .f32 0x3F000000#32 = half := by
  simp [Ideal.ofBits, Ideal.ieee, half]
  rw [← EReal.coe_mul]
  congr 1
  norm_num

/-- The float32 word of minus infinity denotes `⊥`. -/
theorem ofBits_negInf : Ideal.ofBits .f32 0xFF800000#32 = ⊥ := by
  simp [Ideal.ofBits, Ideal.ieee]

/-- The float32 word of plus infinity denotes `⊤`. -/
theorem ofBits_posInf : Ideal.ofBits .f32 0x7F800000#32 = ⊤ := by
  simp [Ideal.ofBits, Ideal.ieee]

/-- One half distributes over a sum of two extended reals. -/
theorem half_mul_add (x y : EReal) : half * (x + y) = half * x + half * y :=
  EReal.left_distrib_of_nonneg_of_ne_top (EReal.coe_nonneg.2 (by norm_num))
    (EReal.coe_ne_top _) x y

/-- One half distributes over a finite sum of extended reals. -/
theorem half_mul_sum {ι : Type} (s : Finset ι) (f : ι → EReal) : half * ∑ k ∈ s, f k = ∑ k ∈ s, half * f k := by
  classical
  induction s using Finset.induction_on with
  | empty => simp
  | insert a s ha ih => rw [Finset.sum_insert ha, Finset.sum_insert ha, half_mul_add, ih]

/-- A weight halved inside every product halves the whole inner product. -/
theorem sum_mul_half {n : Nat} (t w : Fin n → EReal) :
    (∑ k, t k * (half * w k)) = half * ∑ k, t k * w k := by
  rw [half_mul_sum]
  exact Finset.sum_congr rfl fun k _ => by rw [mul_left_comm]

/-- The logistic function of a real as half a hyperbolic tangent plus a half. -/
theorem real_logistic (x : ℝ) : 1 / 2 * Real.tanh (1 / 2 * x) + 1 / 2 = 1 * (1 / (1 + Real.exp (-x))) := by
  have e : Real.exp (-x) = Real.exp (-(1 / 2 * x)) * Real.exp (-(1 / 2 * x)) := by
    rw [← Real.exp_add]; ring_nf
  have e' : Real.exp (1 / 2 * x) * Real.exp (-(1 / 2 * x)) = 1 := by
    rw [← Real.exp_add]; simp
  have hp := Real.exp_pos (1 / 2 * x)
  have hn := Real.exp_pos (-(1 / 2 * x))
  rw [Real.tanh_eq_sinh_div_cosh, Real.sinh_eq, Real.cosh_eq, e]
  have h1 : Real.exp (1 / 2 * x) + Real.exp (-(1 / 2 * x)) ≠ 0 := by positivity
  have h2 : 1 + Real.exp (-(1 / 2 * x)) * Real.exp (-(1 / 2 * x)) ≠ 0 := by positivity
  generalize Real.exp (1 / 2 * x) = a at *
  generalize Real.exp (-(1 / 2 * x)) = b at *
  field_simp
  linear_combination (2 * b) * e'

/-- The logistic function as the reference's chain of operations computes it. -/
def sigmoid (x : EReal) : EReal := Ideal.div 1 (1 + Ideal.exp (-x))

/-- Half the hyperbolic tangent of half an extended real, plus a half, is its logistic value, infinities included. -/
theorem half_tanh (x : EReal) : half * Ideal.tanh (half * x) + half = sigmoid x := by
  have hh : (half : EReal) = ((1 / 2 : ℝ) : EReal) := rfl
  have h0 : (0 : ℝ) < 1 / 2 := by norm_num
  unfold sigmoid
  induction x with
  | bot =>
    rw [hh, EReal.coe_mul_bot_of_pos h0]
    show ((1 / 2 : ℝ) : EReal) * (-1) + ((1 / 2 : ℝ) : EReal) = Ideal.div 1 (1 + Ideal.exp (- ⊥))
    rw [EReal.neg_bot]
    show _ = Ideal.div 1 (1 + ⊤)
    have : (1 : EReal) + ⊤ = ⊤ := by exact_mod_cast EReal.coe_add_top 1
    rw [this, Ideal.div, if_neg (by simp)]
    rw [EReal.inv_top, mul_zero]
    have : ((1 / 2 : ℝ) : EReal) * (-1) + ((1 / 2 : ℝ) : EReal) = ((1 / 2 * (-1) + 1 / 2 : ℝ) : EReal) := by
      rw [EReal.coe_add, EReal.coe_mul, EReal.coe_neg, EReal.coe_one]
    rw [this]; norm_num
  | top =>
    rw [hh, EReal.coe_mul_top_of_pos h0]
    show ((1 / 2 : ℝ) : EReal) * 1 + ((1 / 2 : ℝ) : EReal) = Ideal.div 1 (1 + Ideal.exp (- ⊤))
    rw [EReal.neg_top]
    show _ = Ideal.div 1 (1 + 0)
    rw [add_zero]
    have : Ideal.div 1 1 = 1 := by
      have := Ideal.div_coe (y := 1) one_ne_zero 1
      simpa using this
    rw [this]
    have : ((1 / 2 : ℝ) : EReal) * 1 + ((1 / 2 : ℝ) : EReal) = ((1 / 2 * 1 + 1 / 2 : ℝ) : EReal) := by norm_cast
    rw [this]; norm_num
  | coe r =>
    rw [hh, ← EReal.coe_mul, Ideal.tanh_coe, ← EReal.coe_neg, Ideal.exp_coe]
    have e1 : (1 : EReal) + ((Real.exp (-r) : ℝ) : EReal) = ((1 + Real.exp (-r) : ℝ) : EReal) := by norm_cast
    have hpos : (1 + Real.exp (-r) : ℝ) ≠ 0 := by positivity
    rw [e1, Ideal.div_coe hpos, ← EReal.coe_mul, ← EReal.coe_add, real_logistic, EReal.coe_mul, EReal.coe_one]

/-- A masked attention weight: the kernel's half-tangent form against the logistic one, for a mask of zero or one. -/
theorem edge {m : EReal} (hm : m = 0 ∨ m = 1) (x : EReal) :
    half * m * Ideal.tanh (half * x) + half * m = m * sigmoid x := by
  rcases hm with rfl | rfl
  · simp
  · rw [mul_one, one_mul, half_tanh]

/-- A real bias cancels in a difference of extended reals. -/
theorem add_sub_add_coe (x y : EReal) (b : ℝ) : (x + b) - (y + b) = x - y := by
  induction x with
  | bot => simp
  | top =>
    induction y with
    | bot => simp
    | top => simp
    | coe r => rw [EReal.top_add_coe, ← EReal.coe_add, EReal.top_sub_coe, EReal.top_sub_coe]
  | coe r =>
    induction y with
    | bot => rw [EReal.bot_add, ← EReal.coe_add, EReal.coe_sub_bot, EReal.coe_sub_bot]
    | top => simp
    | coe q => rw [← EReal.coe_add, ← EReal.coe_add, ← EReal.coe_sub, ← EReal.coe_sub]; congr 1; ring

/-- A real bias passes out of a maximum of two. -/
theorem max_add_coe (x y : EReal) (b : ℝ) : max (x + b) (y + b) = max x y + b := by
  rcases le_total x y with h | h
  · rw [max_eq_right h, max_eq_right (by gcongr)]
  · rw [max_eq_left h, max_eq_left (by gcongr)]

/-- A real bias passes out of a maximum started at minus infinity. -/
theorem fold_max_add_coe {ι : Type} (s : Finset ι) (f : ι → EReal) (b : ℝ) :
    s.fold max ⊥ (fun k => f k + b) = s.fold max ⊥ f + b := by
  classical
  induction s using Finset.induction_on with
  | empty => simp
  | insert a s ha ih => rw [Finset.fold_insert ha, Finset.fold_insert ha, ih, max_add_coe]

/-- The weighted sum of a one-hot row is the entry it marks. -/
theorem onehot_sum {n : Nat} (i : Fin n) (p : Fin n → EReal) (hp : ∀ k, p k = if k = i then 1 else 0) (f : Fin n → EReal) :
    (∑ k, p k * f k) = f i := by
  rw [Finset.sum_eq_single i]
  · rw [hp, if_pos rfl, one_mul]
  · intro k _ hk; rw [hp, if_neg hk, zero_mul]
  · intro h; exact absurd (Finset.mem_univ i) h

/-! ### The network's stages as functions of plain indices -/

/-- Entry `k` of the first half of an attention row. -/
def lo (k : Fin 256) : Fin 512 := ⟨k.val, by omega⟩

/-- Entry `k` of the second half of an attention row. -/
def hi (k : Fin 256) : Fin 512 := ⟨256 + k.val, by omega⟩

/-- The adjacency mask at one entry. -/
def maskAt (x : EReal) : EReal := if 0 < x then 1 else 0

/-- The mask is zero or one. -/
theorem maskAt_cases (x : EReal) : maskAt x = 0 ∨ maskAt x = 1 := by
  unfold maskAt
  split
  · exact Or.inr rfl
  · exact Or.inl rfl

/-- A bit widened to a word and converted as a signed integer is zero or one. -/
theorem sitofp_bit (p : Bool) :
    FloatOps.sitofp (F := Ideal) .f32 (BitVec.setWidth 32 (BitVec.ofBool p)) = if p = true then (1 : EReal) else 0 := by
  cases p
  · show (((BitVec.setWidth 32 (BitVec.ofBool false)).toInt : ℝ) : EReal) = 0
    rw [show (BitVec.setWidth 32 (BitVec.ofBool false)).toInt = 0 by decide]
    simp
  · show (((BitVec.setWidth 32 (BitVec.ofBool true)).toInt : ℝ) : EReal) = 1
    rw [show (BitVec.setWidth 32 (BitVec.ofBool true)).toInt = 1 by decide]
    simp

/-- A bit converted as an unsigned integer is zero or one. -/
theorem uitofp_bit (p : Bool) :
    FloatOps.uitofp (F := Ideal) .f32 (BitVec.ofBool p) = if p = true then (1 : EReal) else 0 := by
  cases p
  · show (((BitVec.ofBool false).toNat : ℝ) : EReal) = 0
    rw [show (BitVec.ofBool false).toNat = 0 by decide]
    simp
  · show (((BitVec.ofBool true).toNat : ℝ) : EReal) = 1
    rw [show (BitVec.ofBool true).toNat = 1 by decide]
    simp

/-- A node type's word compared with row number `k`, for a type that names one of ten rows. -/
theorem onehot_bit (w : BitVec 32) (h : w.toNat < 10) (k : Fin 10) :
    FloatOps.sitofp (F := Ideal) .f32 (BitVec.setWidth 32 (IntOp.cmpi .eq w (BitVec.ofNat 32 k.val)))
      = if k = ⟨w.toNat, h⟩ then (1 : EReal) else 0 := by
  have e : IntOp.cmpi .eq w (BitVec.ofNat 32 k.val) = BitVec.ofBool (decide (k = ⟨w.toNat, h⟩)) := by
    obtain ⟨n, hn, rfl⟩ : ∃ n : ℕ, n < 10 ∧ w = BitVec.ofNat 32 n := ⟨_, h, by simp⟩
    interval_cases n <;> (revert h k; decide)
  rw [e, sitofp_bit]
  simp

/-- One attention layer of one graph at node `n`, feature `d`. -/
def layerAt (t : Fin 256 → Fin 256 → EReal) (a : Fin 512 → EReal) (b : EReal) (m : Fin 256 → Fin 256 → EReal)
    (n d : Fin 256) : EReal :=
  max (t n d + ∑ j, sigmoid ((∑ k, t n k * a (lo k)) + (∑ k, t j k * a (hi k)) + b) * m n j * t j d) 0

/-- One node's pooling score without the last bias. -/
def scoreAt (h : Fin 256 → Fin 256 → EReal) (w1 : Fin 128 → Fin 256 → EReal) (b1 w2 : Fin 128 → EReal) (n : Fin 256) :
    EReal :=
  ∑ c, Ideal.tanh ((∑ k, h n k * w1 c k) + b1 c) * w2 c

/-- One node's share in the softmax over a graph's nodes. -/
def softAt (s : Fin 256 → EReal) (n : Fin 256) : EReal :=
  Ideal.div (Ideal.exp (s n - Finset.univ.fold max ⊥ s)) (∑ i, Ideal.exp (s i - Finset.univ.fold max ⊥ s))

/-- The softmax does not see a real bias. -/
theorem softAt_add (s : Fin 256 → EReal) (b : ℝ) (n : Fin 256) : softAt (fun i => s i + b) n = softAt s n := by
  unfold softAt
  rw [fold_max_add_coe]
  simp only [add_sub_add_coe]

/-- The classifier's score of class `c` on one graph's embedding. -/
def clsAt (e : Fin 256 → EReal) (w1 : Fin 128 → Fin 256 → EReal) (b1 : Fin 128 → EReal) (w2 : Fin 8 → Fin 128 → EReal)
    (b2 : Fin 8 → EReal) (c : Fin 8) : EReal :=
  (∑ i, max ((∑ d, e d * w1 i d) + b1 i) 0 * w2 c i) + b2 c

end Gat
-- ==== Proof.RefStages.lean ====
/- The reference read stage by stage: each stage of its printed text as a definition over the stage before, and that definition's
   value at an element, in the terms of Math.lean where both programs compute it. -/
module

public import proofs.«01_k».proof.Proof.Math
public import proofs.«01_k».proof.Proof.Gen.ReferenceIdeal.Read

@[expose] public section

set_option maxRecDepth 16384

noncomputable section

namespace Gat.Ref

open Cert.ReferenceIdeal Cert.ReferenceIdeal.Gen Cert.ReferenceIdeal.Read Idealize.ShloMosaic Idealize.ShloMosaic.TcCoe
open Idealize.SL.Sem Idealize.ShloMosaic.StableHlo

/-- A linear map of every node's features: the weight matrix's transpose on the right, a bias row added. -/
def lin (h : FVec Ideal S8x256x256 .f32) (w : FVec Ideal S1x256x256 .f32) (b : FVec Ideal S1x256 .f32) :
    FVec Ideal S8x256x256 .f32 :=
  addf (Host.dotGeneral dot_S8x256x256_S256x256_S8x256x256_2_0_01_1_n_n none h
      (transpose S256x256 [1, 0] (shapeCast S256x256 w shapeCasts_S1x256x256_S256x256) transposes_S256x256_S256x256_1_0))
    (broadcastInDim S8x256x256 ![0, 1, 2] bcast_S1x1x256_S8x256x256_0_1_2
      (broadcastInDim S1x1x256 ![2] bcast_S256_S1x1x256_2 (shapeCast S256 b shapeCasts_S1x256_S256)))

/-- The first layer's linear map is this one. -/
theorem v20_eq (x0 : FVec Ideal S8x256x256 .f32) (x2 : IVec S8x256 32) (x3 : FVec Ideal S10x256 .f32)
    (x4 : FVec Ideal S256x256 .f32) (x5 : FVec Ideal S256 .f32) (x6 : FVec Ideal S3x256x256 .f32) (x7 : FVec Ideal S3x256 .f32) :
    val_main_v20 (F := Ideal) x0 x2 x3 x4 x5 x6 x7
      = lin (val_main_v6 (F := Ideal) x0 x2 x3 x4 x5) (val_main_v12 (F := Ideal) x6) (val_main_v16 (F := Ideal) x7) := rfl

/-- The reference's linear map at an element: the row's products with the weight's row, summed, plus the bias. -/
theorem lin_apply (h : FVec Ideal S8x256x256 .f32) (w : FVec Ideal S1x256x256 .f32) (b : FVec Ideal S1x256 .f32)
    (g : Fin 8) (n d : Fin 256) :
    lin h w b (ix3 g n d) = (∑ k : Fin 256, h (ix3 g n k) * w (ix3 0 d k)) + b (ix2 0 d) := by
  pointwise [lin]

/-- One attention layer after its linear map: every node's features plus the masked, logistic-weighted sum of all
    nodes' features, cut off at zero. -/
def layer (t : FVec Ideal S8x256x256 .f32) (a : FVec Ideal S1x1x512 .f32) (b : FVec Ideal S1x1 .f32)
    (m : FVec Ideal S256x256 .f32) : FVec Ideal S8x256x256 .f32 :=
  let ar := shapeCast S1x512 a shapeCasts_S1x1x512_S1x512
  let w1 := shapeCast S256 (extractStridedSlice S1x256 ![0, 0] ar slices_S1x512_S1x256_0_0) shapeCasts_S1x256_S256
  let w2 := shapeCast S256 (extractStridedSlice S1x256 ![0, 256] ar slices_S1x512_S1x256_0_256) shapeCasts_S1x256_S256
  let s1 := broadcastInDim S8x256x1 ![0, 1] bcast_S8x256_S8x256x1_0_1
    (Host.dotGeneral dot_S8x256x256_S256_S8x256_2_0_01_n_n_n none t w1)
  let s2 := broadcastInDim S8x1x256 ![0, 2] bcast_S8x256_S8x1x256_0_2
    (Host.dotGeneral dot_S8x256x256_S256_S8x256_2_0_01_n_n_n none t w2)
  let l := addf (addf (broadcastInDim S8x256x256 ![0, 1, 2] bcast_S8x256x1_S8x256x256_0_1_2 s1)
      (broadcastInDim S8x256x256 ![0, 1, 2] bcast_S8x1x256_S8x256x256_0_1_2 s2))
    (broadcastInDim S8x256x256 ![] bcast_S_S8x256x256 (shapeCast S_ (shapeCast S1 b shapeCasts_S1x1_S1) shapeCasts_S1_S_))
  let one := broadcastInDim S8x256x256 ![] bcast_S_S8x256x256 (constant (F := Ideal) S_ .f32 0x3F800000#32)
  let e := Host.divf one (addf one (Host.exp (Host.negf l)))
  let em := mulf e (broadcastInDim S8x256x256 ![0, 1, 2] bcast_S1x256x256_S8x256x256_0_1_2
    (broadcastInDim S1x256x256 ![1, 2] bcast_S256x256_S1x256x256_1_2 m))
  maximumf (addf t (Host.dotGeneral dot_S8x256x256_S8x256x256_S8x256x256_2_1_1_2_0_0 none em t))
    (broadcastInDim S8x256x256 ![] bcast_S_S8x256x256 (constant S_ .f32 0x00000000#32))

/-- The reference's first layer is the attention layer of its first linear map's result. -/
theorem v52_eq (x0 : FVec Ideal S8x256x256 .f32) (x1 : FVec Ideal S8x256x256 .f32) (x2 : IVec S8x256 32) (x3 : FVec Ideal S10x256 .f32)
    (x4 : FVec Ideal S256x256 .f32) (x5 : FVec Ideal S256 .f32) (x6 : FVec Ideal S3x256x256 .f32) (x7 : FVec Ideal S3x256 .f32)
    (x8 : FVec Ideal S3x1x512 .f32) (x9 : FVec Ideal S3x1 .f32) :
    val_main_v52 (F := Ideal) x0 x1 x2 x3 x4 x5 x6 x7 x8 x9
      = layer (val_main_v20 (F := Ideal) x0 x2 x3 x4 x5 x6 x7) (val_main_v21 (F := Ideal) x8) (val_main_v36 (F := Ideal) x9)
          (val_main_v11 (F := Ideal) x1) := rfl

/-- The layer at an element, as the shared arithmetic states it. -/
theorem layer_apply (t : FVec Ideal S8x256x256 .f32) (a : FVec Ideal S1x1x512 .f32) (b : FVec Ideal S1x1 .f32)
    (m : FVec Ideal S256x256 .f32) (g : Fin 8) (n d : Fin 256) :
    layer t a b m (ix3 g n d) = layerAt (fun i k => t (ix3 g i k)) (fun k => a (ix3 0 0 k)) (b (ix2 0 0))
      (fun i j => m (ix2 i j)) n d := by
  pointwise [layer]
  rfl

/-- The adjacency mask at an element: one where the entry of the first graph's matrix is positive, else zero. -/
theorem mask_apply (x1 : FVec Ideal S8x256x256 .f32) (i j : Fin 256) :
    val_main_v11 (F := Ideal) x1 (ix2 i j) = maskAt (x1 (ix3 0 i j)) := by
  pointwise [val_main_v11, val_main_v10, val_main_v9, val_main_v8, val_main_v7, val_main_cst]
  rw [uitofp_bit]
  simp [maskAt]

/-- The pooling scores of all nodes before the softmax, without their last bias. -/
def pscore (h : FVec Ideal S8x256x256 .f32) (w1 : FVec Ideal S128x256 .f32) (b1 : FVec Ideal S128 .f32)
    (w2 : FVec Ideal S1x128 .f32) (b2 : FVec Ideal S1 .f32) : FVec Ideal S8x256x1 .f32 :=
  addf (Host.dotGeneral dot_S8x256x128_S128x1_S8x256x1_2_0_01_1_n_n none
      (Host.tanh (addf (Host.dotGeneral dot_S8x256x256_S256x128_S8x256x128_2_0_01_1_n_n none h
          (transpose S256x128 [1, 0] w1 transposes_S128x256_S256x128_1_0))
        (broadcastInDim S8x256x128 ![0, 1, 2] bcast_S1x1x128_S8x256x128_0_1_2 (broadcastInDim S1x1x128 ![2] bcast_S128_S1x1x128_2 b1))))
      (transpose S128x1 [1, 0] w2 transposes_S1x128_S128x1_1_0))
    (broadcastInDim S8x256x1 ![0, 1, 2] bcast_S1x1x1_S8x256x1_0_1_2 (broadcastInDim S1x1x1 ![2] bcast_S1_S1x1x1_2 b2))

/-- The reference's pooling score of a node: the shared score plus the pooling bias. -/
theorem pscore_apply (h : FVec Ideal S8x256x256 .f32) (w1 : FVec Ideal S128x256 .f32) (b1 : FVec Ideal S128 .f32)
    (w2 : FVec Ideal S1x128 .f32) (b2 : FVec Ideal S1 .f32) (g : Fin 8) (n : Fin 256) :
    pscore h w1 b1 w2 b2 (ix3 g n 0) = scoreAt (fun i k => h (ix3 g i k)) (fun c k => w1 (ix2 c k)) (fun c => b1 (ix1 c))
      (fun c => w2 (ix2 0 c)) n + b2 (ix1 0) := by
  pointwise [pscore]
  rfl

/-- The softmax over the nodes of each graph. -/
def psoft (s : FVec Ideal S8x256x1 .f32) : FVec Ideal S8x256x1 .f32 :=
  let mx := maximumf (broadcastInDim S8x1 ![] bcast_S_S8x1 (constant (F := Ideal) S_ .f32 0xFF800000#32))
    (Host.reduce FloatOps.maximumf s (constant (F := Ideal) S_ .f32 0xFF800000#32) reducesTo_S8x256x1_S8x1_d1 h_S_)
  let e := Host.exp (subf s (broadcastInDim S8x256x1 ![0, 1, 2] bcast_S8x1x1_S8x256x1_0_1_2
    (broadcastInDim S8x1x1 ![0, 2] bcast_S8x1_S8x1x1_0_2 mx)))
  Host.divf e (broadcastInDim S8x256x1 ![0, 1, 2] bcast_S8x1x1_S8x256x1_0_1_2
    (broadcastInDim S8x1x1 ![0, 2] bcast_S8x1_S8x1x1_0_2
      (Host.reduceAdd e (constant (F := Ideal) S_ .f32 0x00000000#32) reducesTo_S8x256x1_S8x1_d1 h_S_)))

/-- The reference's pooling weights at a node: the softmax of the graph's scores. -/
theorem psoft_apply (s : FVec Ideal S8x256x1 .f32) (g : Fin 8) (n : Fin 256) :
    psoft s (ix3 g n 0) = softAt (fun i => s (ix3 g i 0)) n := by
  pointwise [psoft]
  rw [ofBits_negInf, max_bot_left]
  rfl

/-- Each graph's embedding: its nodes' features in the given proportions. -/
def pool (a : FVec Ideal S8x256x1 .f32) (h : FVec Ideal S8x256x256 .f32) : FVec Ideal S8x256 .f32 :=
  Host.reduceAdd (mulf (broadcastInDim S8x256x256 ![0, 1, 2] bcast_S8x256x1_S8x256x256_0_1_2 a) h)
    (constant (F := Ideal) S_ .f32 0x00000000#32) reducesTo_S8x256x256_S8x256_d1 h_S_

/-- The reference's embedding at an element: the weighted sum of the graph's features. -/
theorem pool_apply (a : FVec Ideal S8x256x1 .f32) (h : FVec Ideal S8x256x256 .f32) (g : Fin 8) (d : Fin 256) :
    pool a h (ix2 g d) = ∑ n : Fin 256, a (ix3 g n 0) * h (ix3 g n d) := by
  pointwise [pool]

/-- The classifier on the graphs' embeddings. -/
def cls (e : FVec Ideal S8x256 .f32) (w1 : FVec Ideal S128x256 .f32) (b1 : FVec Ideal S128 .f32)
    (w2 : FVec Ideal S8x128 .f32) (b2 : FVec Ideal S8 .f32) : FVec Ideal S8x8 .f32 :=
  addf (Host.dotGeneral dot_S8x128_S128x8_S8x8_1_0_0_1_n_n none
      (maximumf (addf (Host.dotGeneral dot_S8x256_S256x128_S8x128_1_0_0_1_n_n none e
          (transpose S256x128 [1, 0] w1 transposes_S128x256_S256x128_1_0))
        (broadcastInDim S8x128 ![0, 1] bcast_S1x128_S8x128_0_1 (broadcastInDim S1x128 ![1] bcast_S128_S1x128_1 b1)))
      (broadcastInDim S8x128 ![] bcast_S_S8x128 (constant (F := Ideal) S_ .f32 0x00000000#32)))
      (transpose S128x8 [1, 0] w2 transposes_S8x128_S128x8_1_0))
    (broadcastInDim S8x8 ![0, 1] bcast_S1x8_S8x8_0_1 (broadcastInDim S1x8 ![1] bcast_S8_S1x8_1 b2))

/-- The reference's classifier at a graph and class. -/
theorem cls_apply (e : FVec Ideal S8x256 .f32) (w1 : FVec Ideal S128x256 .f32) (b1 : FVec Ideal S128 .f32)
    (w2 : FVec Ideal S8x128 .f32) (b2 : FVec Ideal S8 .f32) (g c : Fin 8) :
    cls e w1 b1 w2 b2 (ix2 g c) = clsAt (fun d => e (ix2 g d)) (fun i k => w1 (ix2 i k)) (fun i => b1 (ix1 i))
      (fun i k => w2 (ix2 i k)) (fun i => b2 (ix1 i)) c := by
  pointwise [cls]
  rfl

/-- The gather of table rows, read at an element: the row is the start index, read signed and cut off at the table's
    last row. -/
theorem gather_apply (x : S10x256.Idx → EReal) (idx : IVec S8x256x1 32) (g : Fin 8) (n d : Fin 256) :
    Host.gather gather_S10x256_S8x256x1_S8x256x256_2_0_n_n_0_2_1256 x idx (ix3 g n d)
      = x (ix2 ⟨min (idx (ix3 g n 0)).toInt.toNat 9, by omega⟩ d) := by
  unfold Host.gather
  congr 1
  funext a
  refine Fin.ext ?_
  show gather_S10x256_S8x256x1_S8x256x256_2_0_n_n_0_2_1256.start (ix3 g n d) idx a
    + gather_S10x256_S8x256x1_S8x256x256_2_0_n_n_0_2_1256.batchCoord (ix3 g n d) a
    + gather_S10x256_S8x256x1_S8x256x256_2_0_n_n_0_2_1256.offCoord (ix3 g n d) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ gather_S10x256_S8x256x1_S8x256x256_2_0_n_n_0_2_1256.startIndexMap from
      List.mem_singleton.mpr rfl)]
    have hsi : gather_S10x256_S8x256x1_S8x256x256_2_0_n_n_0_2_1256.siIdx (ix3 g n d)
        ⟨List.idxOf (⟨0, by decide⟩ : Fin 2) gather_S10x256_S8x256x1_S8x256x256_2_0_n_n_0_2_1256.startIndexMap,
          List.idxOf_lt_length_iff.2 (List.mem_singleton.mpr rfl)⟩ = ix3 g n 0 := by
      funext b
      refine Fin.ext ?_
      match b with
      | ⟨0, _⟩ => rfl
      | ⟨1, _⟩ => rfl
      | ⟨2, _⟩ => rfl
    rw [hsi]
    rfl
  | ⟨1, _⟩ =>
    unfold GatherDims.start
    rw [dif_neg (show (⟨1, by decide⟩ : Fin 2) ∉ gather_S10x256_S8x256x1_S8x256x256_2_0_n_n_0_2_1256.startIndexMap by decide)]
    simp only [Nat.zero_add, Nat.add_zero]
    rfl

/-- For a word that names one of ten rows, wrapping, range mask and cut-off leave the row it names. -/
theorem take_word (w : BitVec 32) (h : w.toNat < 10) (f : Fin 10 → EReal) (z : EReal) :
    Scalar.select
      (IntOp.andi
        (IntOp.andi (IntOp.cmpi .sge (Scalar.select (IntOp.cmpi .slt w 0#32) (IntOp.addi w 10#32) w) 0#32)
          (IntOp.cmpi .sle (Scalar.select (IntOp.cmpi .slt w 0#32) (IntOp.addi w 10#32) w) 9#32)) 1#1)
      (f ⟨min (Scalar.select (IntOp.cmpi .slt w 0#32) (IntOp.addi w 10#32) w).toInt.toNat 9, by omega⟩) z
      = f ⟨w.toNat, h⟩ := by
  obtain ⟨k, hk, rfl⟩ : ∃ k : ℕ, k < 10 ∧ w = BitVec.ofNat 32 k := ⟨_, h, by simp⟩
  interval_cases k <;> rfl

/-- The take from the embedding table at a node whose type lies in the table: that row of the table. -/
theorem take_apply (x2 : IVec S8x256 32) (x3 : FVec Ideal S10x256 .f32) (g : Fin 8) (n d : Fin 256)
    (h : (x2 (ix2 g n)).toNat < 10) :
    val_main_v0 (F := Ideal) x2 x3 (ix3 g n d) = x3 (ix2 ⟨(x2 (ix2 g n)).toNat, h⟩ d) := by
  pointwise [val_main_v0, val_main_call0_v13, val_main_call0_v14, val_main_call0_v15, val_main_call0_v12,
    val_main_call0_v11, val_main_call0_v10, val_main_call0_v9, val_main_call0_v8, val_main_call0_v7, val_main_call0_v6,
    val_main_call0_v5, val_main_call0_v4, val_main_call0_v3, val_main_call0_v2, val_main_call0_v1, val_main_call0_v0,
    val_main_call0_c_0, val_main_call0_c, val_main_call0_c_1, val_main_call0_c_2, val_main_call0_c_3, val_main_call0_cst]
  rw [gather_apply]
  pointwise
  rw [Finset.univ_unique, Finset.fold_singleton]
  exact take_word (x2 (ix2 g n)) h (fun r => x3 (ix2 r d)) _

end Gat.Ref
-- ==== Proof.KernelStages.lean ====
/- The kernel's body read stage by stage: each value it computes as a definition over its operands, that definition's value at an
   element in the terms of Math.lean, and the two arrays the body stores as those definitions over its input blocks. The kernel
   stacks the eight graphs' 256 nodes as 2048 rows. -/
module

public import proofs.«01_k».proof.Proof.Math
public import proofs.«01_k».proof.Proof.Gen.KernelIdeal.Frame
public import Idealize.ShloMosaic.Lib.Pipeline.Value

@[expose] public section

set_option maxRecDepth 16384

noncomputable section

namespace Gat.Kern

open Cert.KernelIdeal Cert.KernelIdeal.Gen Idealize.ShloMosaic Idealize.ShloMosaic.TcCoe
open Idealize.SL.Sem

/-- Row `n` of graph `g` among the stacked rows of all graphs. -/
def row (g : Fin 8) (n : Fin 256) : Fin 2048 := ⟨256 * g.val + n.val, by omega⟩

/-- A graph's rows lie inside the stacked rows. -/
theorem slRows (g : Fin 8) : S2048x256.Slices ![256 * g.val, 0] S256x256 := by
  refine ⟨rfl, fun a => ?_⟩
  match a with
  | ⟨0, _⟩ => show 256 * g.val + 256 ≤ 2048; omega
  | ⟨1, _⟩ => show 0 + 256 ≤ 256; omega

/-- A graph's columns lie inside the row of all nodes' scores. -/
theorem slCols (g : Fin 8) : S1x2048.Slices ![0, 256 * g.val] S1x256 := by
  refine ⟨rfl, fun a => ?_⟩
  match a with
  | ⟨0, _⟩ => show 0 + 1 ≤ 1; omega
  | ⟨1, _⟩ => show 256 * g.val + 256 ≤ 2048; omega

/-- A graph's entries lie inside the column of all nodes' scores. -/
theorem slCol (g : Fin 8) : S2048x1.Slices ![256 * g.val, 0] S256x1 := by
  refine ⟨rfl, fun a => ?_⟩
  match a with
  | ⟨0, _⟩ => show 256 * g.val + 256 ≤ 2048; omega
  | ⟨1, _⟩ => show 0 + 1 ≤ 1; omega

/-- The linear map of all rows. -/
def lin (h : FVec Ideal S2048x256 .f32) (w : FVec Ideal S1x256x256 .f32) (b : FVec Ideal S1x256 .f32) : FVec Ideal S2048x256 .f32 :=
  addf (matmul dot_S2048x256_S256x256_S2048x256_1_1_0_0_n_n none (truncf .bf16 h bitsLt_bf16_f32)
      (truncf .bf16 (shapeCast S256x256 w shapeCasts_S1x256x256_S256x256) bitsLt_bf16_f32) (constant S2048x256 .f32 0x00000000#32))
    (broadcastTo S2048x256 b broadcasts_S1x256_S2048x256)

/-- The kernel's linear map at an element: the row's products with the weight's row, summed, plus the bias. -/
theorem lin_apply (h : FVec Ideal S2048x256 .f32) (w : FVec Ideal S1x256x256 .f32) (b : FVec Ideal S1x256 .f32) (r : Fin 2048) (d : Fin 256) :
    lin h w b (ix2 r d) = (∑ k : Fin 256, h (ix2 r k) * w (ix3 0 d k)) + b (ix2 0 d) := by
  pointwise [lin]

/-- The first half of the attention logits, halved, one row per receiving node. -/
abbrev s1 (t : FVec Ideal S2048x256 .f32) (w1 : FVec Ideal S1x256 .f32) : FVec Ideal S2048x256 .f32 := k0_pay4 t w1

/-- A node's half score as the edge's end: half its product with the first attention weights. -/
theorem s1_apply (t : FVec Ideal S2048x256 .f32) (w1 : FVec Ideal S1x256 .f32) (r : Fin 2048) (d : Fin 256) :
    s1 t w1 (ix2 r d) = half * ∑ k : Fin 256, t (ix2 r k) * w1 (ix2 0 k) := by
  pointwise [s1, k0_pay4]
  rw [Finset.univ_unique (α := Fin 1), Finset.sum_singleton, ofBits_half, sum_mul_half]
  rfl

/-- The second half of the attention logits with the bias, halved. -/
abbrev s2 (t : FVec Ideal S2048x256 .f32) (w2 : FVec Ideal S1x256 .f32) (b : FVec Ideal S1x1 .f32) : FVec Ideal S1x2048 .f32 :=
  k0_pay3 t w2 b

/-- A node's half score as the edge's start: half its product with the second attention weights, the bias within the half. -/
theorem s2_apply (t : FVec Ideal S2048x256 .f32) (w2 : FVec Ideal S1x256 .f32) (b : FVec Ideal S1x1 .f32) (r : Fin 2048) :
    s2 t w2 b (ix2 0 r) = half * ((∑ k : Fin 256, t (ix2 r k) * w2 (ix2 0 k)) + b (ix2 0 0)) := by
  pointwise [s2, k0_pay3]
  rw [Finset.univ_unique (α := Fin 1), Finset.sum_singleton, ofBits_half, half_mul_add, half_mul_sum]
  congr 1
  exact Finset.sum_congr rfl fun k _ => by rw [mul_assoc, mul_comm (w2 _)]

/-- One graph's rows after an attention layer. -/
def blk (m : FVec Ideal S256x256 .f32) (t : FVec Ideal S2048x256 .f32) (q : FVec Ideal S1x2048 .f32) (p : FVec Ideal S2048x256 .f32)
    (g : Fin 8) : FVec Ideal S256x256 .f32 :=
  maximumf (addf (extractStridedSlice S256x256 ![256 * g.val, 0] t (slRows g))
      (matmul dot_S256x256_S256x256_S256x256_1_0_0_1_n_n none
        (truncf .bf16 (addf (mulf m (tanh (addf (extractStridedSlice S256x256 ![256 * g.val, 0] p (slRows g))
          (broadcastTo S256x256 (extractStridedSlice S1x256 ![0, 256 * g.val] q (slCols g)) broadcasts_S1x256_S256x256)))) m)
          bitsLt_bf16_f32)
        (extractStridedSlice S256x256 ![256 * g.val, 0] (truncf .bf16 t bitsLt_bf16_f32) (slRows g))
        (constant S256x256 .f32 0x00000000#32)))
    (broadcast S256x256 (Scalar.ofBits .f32 0x00000000#32))

/-- One graph's attention step at an element, the mask already halved. -/
theorem blk_apply (m : FVec Ideal S256x256 .f32) (t : FVec Ideal S2048x256 .f32) (q : FVec Ideal S1x2048 .f32) (p : FVec Ideal S2048x256 .f32)
    (g : Fin 8) (n d : Fin 256) : blk m t q p g (ix2 n d) = max (t (ix2 (row g n) d) +
      ∑ j : Fin 256, (m (ix2 n j) * Ideal.tanh (p (ix2 (row g n) j) + q (ix2 0 (row g j))) + m (ix2 n j)) * t (ix2 (row g j) d)) 0 := by
  pointwise [blk]
  rfl

/-- All graphs' rows after an attention layer. -/
def lay (m : FVec Ideal S256x256 .f32) (t : FVec Ideal S2048x256 .f32) (q : FVec Ideal S1x2048 .f32) (p : FVec Ideal S2048x256 .f32) :
    FVec Ideal S2048x256 .f32 :=
  concatenate S2048x256 0 (List.ofFn fun g : Fin 8 => ⟨S256x256, blk m t q p g⟩)
    concatenates_S256x256_S256x256_S256x256_S256x256_S256x256_S256x256_S256x256_S256x256_S2048x256_d0

/-- The attention step of all rows, at a graph's row, is that graph's step. -/
theorem lay_apply (m : FVec Ideal S256x256 .f32) (t : FVec Ideal S2048x256 .f32) (q : FVec Ideal S1x2048 .f32) (p : FVec Ideal S2048x256 .f32)
    (g : Fin 8) (n d : Fin 256) : lay m t q p (ix2 (row g n) d) = blk m t q p g (ix2 n d) := by
  refine concatenate_ofFn_apply (t := S2048x256) (s₁ := S256x256) (0 : Fin 2) (fun g : Fin 8 => blk m t q p g) _ rfl 256 rfl
    (ix2 (row g n) d) g ?_ (ix2 n d) ?_ ?_
  · show (256 * g.val + n.val) / 256 = g.val; omega
  · show n.val = (256 * g.val + n.val) % 256; omega
  · intro b hb
    match b with
    | ⟨0, _⟩ => exact absurd rfl hb
    | ⟨1, _⟩ => rfl

/-- All nodes' pooling scores. -/
def score (h : FVec Ideal S2048x256 .f32) (w1 : FVec Ideal S128x256 .f32) (b1 w2 : FVec Ideal S1x128 .f32) : FVec Ideal S2048x1 .f32 :=
  matmul dot_S2048x128_S1x128_S2048x1_1_1_0_0_n_n none
    (tanh (addf (matmul dot_S2048x256_S128x256_S2048x128_1_1_0_0_n_n none (truncf .bf16 h bitsLt_bf16_f32)
        (truncf .bf16 w1 bitsLt_bf16_f32) (constant S2048x128 .f32 0x00000000#32))
      (broadcastTo S2048x128 (shapeCast S1x128 b1 shapeCasts_S1x128_S1x128) broadcasts_S1x128_S2048x128)))
    w2 (constant S2048x1 .f32 0x00000000#32)

/-- The kernel's pooling score of a node, which leaves the pooling bias out. -/
theorem score_apply (h : FVec Ideal S2048x256 .f32) (w1 : FVec Ideal S128x256 .f32) (b1 w2 : FVec Ideal S1x128 .f32) (g : Fin 8) (n : Fin 256) :
    score h w1 b1 w2 (ix2 (row g n) 0) = scoreAt (fun i k => h (ix2 (row g i) k)) (fun c k => w1 (ix2 c k))
      (fun c => b1 (ix2 0 c)) (fun c => w2 (ix2 0 c)) n := by
  pointwise [score]
  rfl

/-- One graph's embedding: the softmax of its nodes' scores, against its nodes' features. -/
def poolRow (h : FVec Ideal S2048x256 .f32) (s : FVec Ideal S2048x1 .f32) (g : Fin 8) : FVec Ideal S1x256 .f32 :=
  let sg := extractStridedSlice S256x1 ![256 * g.val, 0] s (slCol g)
  let e := exp (subf sg (broadcast S256x1 (extractAt ![0, 0, 0] (shapeCast S1x1x1
    (multiReduction .maximumf [1, 2] S1 (shapeCast S1x256x1 sg shapeCasts_S256x1_S1x256x1) 0xFF800000#32 reduces_S1x256x1_S1 (.inl rfl) rfl)
    shapeCasts_S1_S1x1x1) inpos_S1x1x1_p0_0_0)))
  matmul dot_S256x1_S256x256_S1x256_0_0_1_1_n_n none
    (divf e (broadcast S256x1 (extractAt ![0, 0, 0] (shapeCast S1x1x1
      (multiReduction .add [1, 2] S1 (shapeCast S1x256x1 e shapeCasts_S256x1_S1x256x1) 0x00000000#32 reduces_S1x256x1_S1 (.inl rfl) rfl)
      shapeCasts_S1_S1x1x1) inpos_S1x1x1_p0_0_0)))
    (extractStridedSlice S256x256 ![256 * g.val, 0] h (slRows g)) (constant S1x256 .f32 0x00000000#32)

/-- One graph's embedding at an element: its features weighted by the softmax of its scores. -/
theorem poolRow_apply (h : FVec Ideal S2048x256 .f32) (s : FVec Ideal S2048x1 .f32) (g : Fin 8) (d : Fin 256) :
    poolRow h s g (ix2 0 d) = ∑ n, softAt (fun i => s (ix2 (row g i) 0)) n * h (ix2 (row g n) d) := by
  pointwise [poolRow]
  simp only [Finset.univ_unique, Finset.sum_singleton, ofBits_negInf]
  rfl

/-- The graphs' embeddings, one row each. -/
def pool (h : FVec Ideal S2048x256 .f32) (s : FVec Ideal S2048x1 .f32) : FVec Ideal S8x256 .f32 :=
  concatenate S8x256 0 (List.ofFn fun g : Fin 8 => ⟨S1x256, poolRow h s g⟩)
    concatenates_S1x256_S1x256_S1x256_S1x256_S1x256_S1x256_S1x256_S1x256_S8x256_d0

/-- The embeddings' row of a graph is that graph's embedding. -/
theorem pool_apply (h : FVec Ideal S2048x256 .f32) (s : FVec Ideal S2048x1 .f32) (g : Fin 8) (d : Fin 256) :
    pool h s (ix2 g d) = poolRow h s g (ix2 0 d) := by
  refine concatenate_ofFn_apply (t := S8x256) (s₁ := S1x256) (0 : Fin 2) (fun g : Fin 8 => poolRow h s g) _ rfl 1 rfl
    (ix2 g d) g ?_ (ix2 0 d) ?_ ?_
  · show g.val / 1 = g.val; omega
  · show 0 = g.val % 1; omega
  · intro b hb
    match b with
    | ⟨0, _⟩ => exact absurd rfl hb
    | ⟨1, _⟩ => rfl

/-- The classifier on the graphs' embeddings. -/
def cls (e : FVec Ideal S8x256 .f32) (w1 : FVec Ideal S128x256 .f32) (b1 : FVec Ideal S1x128 .f32) (w2 : FVec Ideal S8x128 .f32)
    (b2 : FVec Ideal S1x8 .f32) : FVec Ideal S8x8 .f32 :=
  addf (matmul dot_S8x128_S8x128_S8x8_1_1_0_0_n_n none
      (maximumf (addf (matmul dot_S8x256_S128x256_S8x128_1_1_0_0_n_n none e w1 (constant S8x128 .f32 0x00000000#32))
          (broadcastTo S8x128 (shapeCast S1x128 b1 shapeCasts_S1x128_S1x128) broadcasts_S1x128_S8x128))
        (broadcast S8x128 (Scalar.ofBits .f32 0x00000000#32)))
      w2 (constant S8x8 .f32 0x00000000#32))
    (broadcastTo S8x8 (shapeCast S1x8 b2 shapeCasts_S1x8_S1x8) broadcasts_S1x8_S8x8)

/-- The kernel's classifier at a graph and class. -/
theorem cls_apply (e : FVec Ideal S8x256 .f32) (w1 : FVec Ideal S128x256 .f32) (b1 : FVec Ideal S1x128 .f32) (w2 : FVec Ideal S8x128 .f32)
    (b2 : FVec Ideal S1x8 .f32) (g c : Fin 8) :
    cls e w1 b1 w2 b2 (ix2 g c) = clsAt (fun d => e (ix2 g d)) (fun i k => w1 (ix2 i k)) (fun i => b1 (ix2 0 i))
      (fun i k => w2 (ix2 i k)) (fun i => b2 (ix2 0 i)) c := by
  pointwise [cls]
  rfl

/-- Half the adjacency mask, at an element. -/
theorem hmask_apply (a : FVec Ideal S1x256x256 .f32) (i j : Fin 256) :
    k0_pay1 (F := Ideal) a (ix2 i j) = half * maskAt (a (ix3 0 i j)) := by
  pointwise [k0_pay1]
  rw [ofBits_half, sitofp_bit]
  simp [maskAt]

/-- The nodes' first features: the embedding row their type names, plus the projected input features. -/
def emb (x : FVec Ideal S2048x256 .f32) (ty : IVec S2048x1 32) (table : FVec Ideal S10x256 .f32) (w : FVec Ideal S256x256 .f32)
    (b : FVec Ideal S1x256 .f32) : FVec Ideal S2048x256 .f32 :=
  addf (matmul dot_S2048x10_S10x256_S2048x256_1_0_0_1_n_n none
      (sitofp .f32 (extui 32 (cmpi .eq (broadcastTo S2048x10 (shapeCast S2048x1 ty shapeCasts_S2048x1_S2048x1) broadcasts_S2048x1_S2048x10)
        (iota .tc S2048x10 32 [1] iota_S2048x10_d1_w32)) natLt_1_32))
      table (constant S2048x256 .f32 0x00000000#32))
    (addf (matmul dot_S2048x256_S256x256_S2048x256_1_1_0_0_n_n none
        (truncf .bf16 (shapeCast S2048x256 x shapeCasts_S2048x256_S2048x256) bitsLt_bf16_f32) (truncf .bf16 w bitsLt_bf16_f32)
        (constant S2048x256 .f32 0x00000000#32))
      (broadcastTo S2048x256 (shapeCast S1x256 b shapeCasts_S1x256_S1x256) broadcasts_S1x256_S2048x256))

/-- An embedded row, for a node type the table has: the type's row of the table plus the projected features. -/
theorem emb_apply (x : FVec Ideal S2048x256 .f32) (ty : IVec S2048x1 32) (table : FVec Ideal S10x256 .f32) (w : FVec Ideal S256x256 .f32)
    (b : FVec Ideal S1x256 .f32) (r : Fin 2048) (d : Fin 256) (h : (ty (ix2 r 0)).toNat < 10) :
    emb x ty table w b (ix2 r d) = table (ix2 ⟨(ty (ix2 r 0)).toNat, h⟩ d) + ((∑ k : Fin 256, x (ix2 r k) * w (ix2 d k)) + b (ix2 0 d)) := by
  pointwise [emb]
  congr 1
  exact onehot_sum _ _ (onehot_bit _ h) _

variable (x0 : Vec Ideal S2048x256 .f32) (x1 : Vec Ideal S1x256x256 .f32) (x2 : Vec Ideal S2048x1 .i32) (x3 : Vec Ideal S10x256 .f32)
  (x4 : Vec Ideal S256x256 .f32) (x5 : Vec Ideal S1x256 .f32) (x6 : Vec Ideal S3x256x256 .f32) (x7 : Vec Ideal S3x256 .f32)
  (x8 : Vec Ideal S3x512 .f32) (x9 : Vec Ideal S3x1 .f32) (x10 : Vec Ideal S128x256 .f32) (x11 x12 : Vec Ideal S1x128 .f32)
  (x13 : Vec Ideal S128x256 .f32) (x14 : Vec Ideal S1x128 .f32) (x15 : Vec Ideal S8x128 .f32) (x16 : Vec Ideal S1x8 .f32)

/-- One layer: the attention step over the linear map's rows. -/
def att (m : FVec Ideal S256x256 .f32) (t : FVec Ideal S2048x256 .f32) (w1 w2 : FVec Ideal S1x256 .f32) (b : FVec Ideal S1x1 .f32) :
    FVec Ideal S2048x256 .f32 := lay m t (s2 t w2 b) (s1 t w1)

/-- The rows after the first layer's linear map. -/
def t0 : FVec Ideal S2048x256 .f32 :=
  lin (emb (View.ld x0 r0_0) (View.ld x2 r0_1) (View.ld x3 r0_3) (View.ld x4 r0_4) (View.ld x5 r0_5)) (View.ld x6 r0_6) (View.ld x7 r0_7)

/-- The rows after the first layer. -/
def h0 : FVec Ideal S2048x256 .f32 :=
  att (k0_pay1 (View.ld x1 r0_2)) (t0 x0 x2 x3 x4 x5 x6 x7) (View.ld x8 r0_8) (View.ld x8 r0_9) (View.ld x9 r0_10)

/-- The rows after the second layer. -/
def h1 : FVec Ideal S2048x256 .f32 :=
  att (k0_pay1 (View.ld x1 r0_2)) (lin (h0 x0 x1 x2 x3 x4 x5 x6 x7 x8 x9) (View.ld x6 r0_11) (View.ld x7 r0_12))
    (View.ld x8 r0_13) (View.ld x8 r0_14) (View.ld x9 r0_15)

/-- The rows after the third layer. -/
def h2 : FVec Ideal S2048x256 .f32 :=
  att (k0_pay1 (View.ld x1 r0_2)) (lin (h1 x0 x1 x2 x3 x4 x5 x6 x7 x8 x9) (View.ld x6 r0_16) (View.ld x7 r0_17))
    (View.ld x8 r0_18) (View.ld x8 r0_19) (View.ld x9 r0_20)

/-- The graphs' embeddings. -/
def ge : FVec Ideal S8x256 .f32 :=
  pool (h2 x0 x1 x2 x3 x4 x5 x6 x7 x8 x9)
    (score (h2 x0 x1 x2 x3 x4 x5 x6 x7 x8 x9) (View.ld x10 r0_21) (View.ld x11 r0_22) (View.ld x12 r0_22))

/-- The value the body computes as the second linear map's result. -/
theorem pay62_eq : k0_pay62 (F := Ideal) x0 x1 x2 x3 x4 x5 x6 x7 x8 x9 x10 x11 x12 x13 x14 x15 x16
    = lin (h0 x0 x1 x2 x3 x4 x5 x6 x7 x8 x9) (View.ld x6 r0_11) (View.ld x7 r0_12) := rfl

/-- The value the body computes as the third linear map's result. -/
theorem pay66_eq : k0_pay66 (F := Ideal) x0 x1 x2 x3 x4 x5 x6 x7 x8 x9 x10 x11 x12 x13 x14 x15 x16
    = lin (h1 x0 x1 x2 x3 x4 x5 x6 x7 x8 x9) (View.ld x6 r0_16) (View.ld x7 r0_17) := rfl

/-- The value the body computes as the third layer's rows. -/
theorem pay79_eq : k0_pay79 (F := Ideal) x0 x1 x2 x3 x4 x5 x6 x7 x8 x9 x10 x11 x12 x13 x14 x15 x16
    = h2 x0 x1 x2 x3 x4 x5 x6 x7 x8 x9 := rfl

/-- The value the body computes as the pooling scores. -/
theorem pay80_eq : k0_pay80 (F := Ideal) x0 x1 x2 x3 x4 x5 x6 x7 x8 x9 x10 x11 x12 x13 x14 x15 x16
    = score (h2 x0 x1 x2 x3 x4 x5 x6 x7 x8 x9) (View.ld x10 r0_21) (View.ld x11 r0_22) (View.ld x12 r0_22) := rfl

/-- The body leaves the embeddings in its second output. -/
theorem out18_eq : out0_18 (F := Ideal) x0 x1 x2 x3 x4 x5 x6 x7 x8 x9 x10 x11 x12 x13 x14 x15 x16
    = View.canon [⟨r0_26, ge x0 x1 x2 x3 x4 x5 x6 x7 x8 x9 x10 x11 x12⟩] := rfl

/-- The body leaves the classifier's scores in its first output. -/
theorem out17_eq : out0_17 (F := Ideal) x0 x1 x2 x3 x4 x5 x6 x7 x8 x9 x10 x11 x12 x13 x14 x15 x16
    = View.canon [⟨r0_25, cls (ge x0 x1 x2 x3 x4 x5 x6 x7 x8 x9 x10 x11 x12) (View.ld x13 r0_21) (View.ld x14 r0_22) (View.ld x15 r0_23)
        (View.ld x16 r0_24)⟩] := rfl

end Gat.Kern
-- ==== Proof.Meet.lean ====
/- The kernel's stages equal the reference's, layer by layer: where the body's input blocks hold the reference's arguments (the node
   axes stacked), every node type names a row of the table and the pooling bias is a real number, the embeddings and the scores
   that the body computes are the reference's. -/
module

public import proofs.«01_k».proof.Proof.RefStages
public import proofs.«01_k».proof.Proof.KernelStages

@[expose] public section

set_option maxRecDepth 16384

noncomputable section

namespace Gat.Meet

open Cert.KernelIdeal Cert.KernelIdeal.Gen Cert.ReferenceIdeal.Read Idealize.ShloMosaic Idealize.ShloMosaic.TcCoe
open Idealize.SL.Sem
open Gat.Kern (row)

/-- The features of all graphs' nodes, as the reference lays them out. -/
abbrev T3 : Type := FVec Ideal Cert.ReferenceIdeal.S8x256x256 .f32

/-- The kernel's stacked rows hold the reference's features, graph by graph. -/
def Holds (h : FVec Ideal S2048x256 .f32) (H : T3) : Prop := ∀ (g : Fin 8) (n d : Fin 256), h (ix2 (row g n) d) = H (ix3 g n d)

/-- The linear maps agree where their operands do. -/
theorem lin_holds {h : FVec Ideal S2048x256 .f32} {H : T3} (hh : Holds h H) {w W : FVec Ideal S1x256x256 .f32} {b B : FVec Ideal S1x256 .f32}
    (hw : ∀ d k : Fin 256, w (ix3 0 d k) = W (ix3 0 d k)) (hb : ∀ d : Fin 256, b (ix2 0 d) = B (ix2 0 d)) :
    Holds (Kern.lin h w b) (Ref.lin H W B) := by
  intro g n d
  rw [Kern.lin_apply, Ref.lin_apply, hb]
  simp only [hw]
  congr 1
  exact Finset.sum_congr rfl fun k _ => by rw [hh]

/-- The kernel's attention step at an element, as the shared arithmetic states it. -/
theorem att_apply (a : FVec Ideal S1x256x256 .f32) (t : FVec Ideal S2048x256 .f32) (w1 w2 : FVec Ideal S1x256 .f32)
    (b : FVec Ideal S1x1 .f32) (α : Fin 512 → EReal) (h1 : ∀ k : Fin 256, w1 (ix2 0 k) = α (lo k))
    (h2 : ∀ k : Fin 256, w2 (ix2 0 k) = α (hi k)) (g : Fin 8) (n d : Fin 256) :
    Kern.att (k0_pay1 a) t w1 w2 b (ix2 (row g n) d)
      = layerAt (fun i k => t (ix2 (row g i) k)) α (b (ix2 0 0)) (fun i j => maskAt (a (ix3 0 i j))) n d := by
  rw [Kern.att, Kern.lay_apply, Kern.blk_apply, layerAt]
  simp only [Kern.s1_apply, Kern.s2_apply, Kern.hmask_apply, ← half_mul_add, h1, h2]
  congr 2
  refine Finset.sum_congr rfl fun j _ => ?_
  rw [edge (maskAt_cases _), add_assoc, mul_comm (maskAt _)]

/-- The attention layers agree where their operands do. -/
theorem att_holds {t : FVec Ideal S2048x256 .f32} {T : T3} (ht : Holds t T) {a : FVec Ideal S1x256x256 .f32} {A : FVec Ideal S256x256 .f32}
    (ha : ∀ i j : Fin 256, maskAt (a (ix3 0 i j)) = A (ix2 i j)) {w1 w2 : FVec Ideal S1x256 .f32}
    {α : FVec Ideal Cert.ReferenceIdeal.S1x1x512 .f32} (h1 : ∀ k : Fin 256, w1 (ix2 0 k) = α (ix3 0 0 (lo k)))
    (h2 : ∀ k : Fin 256, w2 (ix2 0 k) = α (ix3 0 0 (hi k))) {b B : FVec Ideal S1x1 .f32} (hb : b (ix2 0 0) = B (ix2 0 0)) :
    Holds (Kern.att (k0_pay1 a) t w1 w2 b) (Ref.layer T α B A) := by
  intro g n d
  rw [att_apply a t w1 w2 b (fun k => α (ix3 0 0 k)) h1 h2, Ref.layer_apply, hb]
  simp only [ha, ht g _ _]

/-! ### The operands the body loads, and the slices the reference takes -/

/-- A load of a whole matrix reads the matrix. -/
theorem ld_whole {a b : Nat} {e : EltTy} (X : Vec Ideal ⟨2, ![a, b]⟩ e) (inb : ∀ i, ![0, 0] i + (⟨2, ![a, b]⟩ : Shape).size i ≤ (⟨2, ![a, b]⟩ : Shape).size i) :
    View.ld X (Rect.unit (s := ⟨2, ![a, b]⟩) ![0, 0] (⟨2, ![a, b]⟩ : Shape).size inb) = X :=
  View.ld_unit_zero (funext fun i => by match i with | ⟨0, _⟩ => rfl | ⟨1, _⟩ => rfl) inb X

section Loads
variable (x1 : Vec Ideal S1x256x256 .f32) (x6 : Vec Ideal S3x256x256 .f32) (x7 : Vec Ideal S3x256 .f32) (x8 : Vec Ideal S3x512 .f32) (x9 : Vec Ideal S3x1 .f32)
  (A8 : FVec Ideal Cert.ReferenceIdeal.S3x1x512 .f32)

/-- The first layer's weights, loaded by the body and sliced by the reference. -/
theorem ldw0 (d k : Fin 256) : View.ld x6 r0_6 (ix3 0 d k) = val_main_v12 (F := Ideal) x6 (ix3 0 d k) := by
  pointwise [val_main_v12]
/-- The second layer's weights, loaded by the body and sliced by the reference. -/
theorem ldw1 (d k : Fin 256) : View.ld x6 r0_11 (ix3 0 d k) = val_main_v53 (F := Ideal) x6 (ix3 0 d k) := by
  pointwise [val_main_v53]
/-- The third layer's weights, loaded by the body and sliced by the reference. -/
theorem ldw2 (d k : Fin 256) : View.ld x6 r0_16 (ix3 0 d k) = val_main_v94 (F := Ideal) x6 (ix3 0 d k) := by
  pointwise [val_main_v94]
/-- The first layer's bias, loaded by the body and sliced by the reference. -/
theorem ldb0 (d : Fin 256) : View.ld x7 r0_7 (ix2 0 d) = val_main_v16 (F := Ideal) x7 (ix2 0 d) := by
  pointwise [val_main_v16]
/-- The second layer's bias, loaded by the body and sliced by the reference. -/
theorem ldb1 (d : Fin 256) : View.ld x7 r0_12 (ix2 0 d) = val_main_v57 (F := Ideal) x7 (ix2 0 d) := by
  pointwise [val_main_v57]
/-- The third layer's bias, loaded by the body and sliced by the reference. -/
theorem ldb2 (d : Fin 256) : View.ld x7 r0_17 (ix2 0 d) = val_main_v98 (F := Ideal) x7 (ix2 0 d) := by
  pointwise [val_main_v98]

variable (h8 : ∀ (l : Fin 3) (k : Fin 512), x8 (ix2 l k) = A8 (ix3 l 0 k))
include h8

/-- The first half of the first layer's attention weights. -/
theorem lda0 (k : Fin 256) : View.ld x8 r0_8 (ix2 0 k) = val_main_v21 (F := Ideal) A8 (ix3 0 0 (lo k)) := by
  pointwise [val_main_v21]; exact h8 _ _
/-- The second half of the first layer's attention weights. -/
theorem lda0' (k : Fin 256) : View.ld x8 r0_9 (ix2 0 k) = val_main_v21 (F := Ideal) A8 (ix3 0 0 (hi k)) := by
  pointwise [val_main_v21]; exact h8 _ _
/-- The first half of the second layer's attention weights. -/
theorem lda1 (k : Fin 256) : View.ld x8 r0_13 (ix2 0 k) = val_main_v62 (F := Ideal) A8 (ix3 0 0 (lo k)) := by
  pointwise [val_main_v62]; exact h8 _ _
/-- The second half of the second layer's attention weights. -/
theorem lda1' (k : Fin 256) : View.ld x8 r0_14 (ix2 0 k) = val_main_v62 (F := Ideal) A8 (ix3 0 0 (hi k)) := by
  pointwise [val_main_v62]; exact h8 _ _
/-- The first half of the third layer's attention weights. -/
theorem lda2 (k : Fin 256) : View.ld x8 r0_18 (ix2 0 k) = val_main_v103 (F := Ideal) A8 (ix3 0 0 (lo k)) := by
  pointwise [val_main_v103]; exact h8 _ _
/-- The second half of the third layer's attention weights. -/
theorem lda2' (k : Fin 256) : View.ld x8 r0_19 (ix2 0 k) = val_main_v103 (F := Ideal) A8 (ix3 0 0 (hi k)) := by
  pointwise [val_main_v103]; exact h8 _ _
omit h8

/-- The first layer's attention bias. -/
theorem ldc0 : View.ld x9 r0_10 (ix2 0 0) = val_main_v36 (F := Ideal) x9 (ix2 0 0) := by
  pointwise [val_main_v36]
/-- The second layer's attention bias. -/
theorem ldc1 : View.ld x9 r0_15 (ix2 0 0) = val_main_v77 (F := Ideal) x9 (ix2 0 0) := by
  pointwise [val_main_v77]
/-- The third layer's attention bias. -/
theorem ldc2 : View.ld x9 r0_20 (ix2 0 0) = val_main_v118 (F := Ideal) x9 (ix2 0 0) := by
  pointwise [val_main_v118]
/-- The adjacency block the body loads, at an edge. -/
theorem ldm (i j : Fin 256) : View.ld x1 r0_2 (ix3 0 i j) = x1 (ix3 0 i j) := by
  pointwise
end Loads

/-- The kernel's embedded rows are the reference's embedded features, for a node type the table has. -/
theorem emb_holds {x : FVec Ideal S2048x256 .f32} {X : T3} (hx : Holds x X) {ty : IVec S2048x1 32} {TY : IVec Cert.ReferenceIdeal.S8x256 32}
    (hty : ∀ (g : Fin 8) (n : Fin 256), ty (ix2 (row g n) 0) = TY (ix2 g n)) (hr : ∀ (g : Fin 8) (n : Fin 256), (TY (ix2 g n)).toNat < 10)
    (table : FVec Ideal S10x256 .f32) (w : FVec Ideal S256x256 .f32) {b : FVec Ideal S1x256 .f32} {B : FVec Ideal Cert.ReferenceIdeal.S256 .f32}
    (hb : ∀ d : Fin 256, b (ix2 0 d) = B (ix1 d)) :
    Holds (Kern.emb x ty table w b) (val_main_v6 (F := Ideal) X TY table w B) := by
  intro g n d
  have hl : (ty (ix2 (row g n) 0)).toNat < 10 := by rw [hty]; exact hr g n
  have e6 : val_main_v6 (F := Ideal) X TY table w B (ix3 g n d)
      = val_main_v0 (F := Ideal) TY table (ix3 g n d) + ((∑ k : Fin 256, X (ix3 g n k) * w (ix2 d k)) + B (ix1 d)) := by
    pointwise [val_main_v6, val_main_v5, val_main_v4, val_main_v3, val_main_v2, val_main_v1]
  rw [Kern.emb_apply _ _ _ _ _ _ _ hl, e6, Ref.take_apply _ _ _ _ _ (hr g n), hb]
  congr 1
  · congr 2
    exact Fin.ext (congrArg BitVec.toNat (hty g n))
  · congr 1
    exact Finset.sum_congr rfl fun k _ => by rw [hx]

/-! ### Layer by layer, over the blocks the body reads and the arrays the reference reads -/

section Layers
variable {x0 : Vec Ideal S2048x256 .f32} {x1 : Vec Ideal S1x256x256 .f32} {x2 : Vec Ideal S2048x1 .i32} {x3 : Vec Ideal S10x256 .f32}
  {x4 : Vec Ideal S256x256 .f32} {x5 : Vec Ideal S1x256 .f32} {x6 : Vec Ideal S3x256x256 .f32} {x7 : Vec Ideal S3x256 .f32}
  {x8 : Vec Ideal S3x512 .f32} {x9 : Vec Ideal S3x1 .f32} {x10 : Vec Ideal S128x256 .f32} {x11 x12 : Vec Ideal S1x128 .f32}
  {x13 : Vec Ideal S128x256 .f32} {x14 : Vec Ideal S1x128 .f32} {x15 : Vec Ideal S8x128 .f32} {x16 : Vec Ideal S1x8 .f32}
  {A0 A1 : T3} {A2 : IVec Cert.ReferenceIdeal.S8x256 32} {A5 : FVec Ideal Cert.ReferenceIdeal.S256 .f32}
  {A8 : FVec Ideal Cert.ReferenceIdeal.S3x1x512 .f32} {A11 : FVec Ideal Cert.ReferenceIdeal.S128 .f32}
  {A13 : FVec Ideal Cert.ReferenceIdeal.S1 .f32} {A15 : FVec Ideal Cert.ReferenceIdeal.S128 .f32} {A17 : FVec Ideal Cert.ReferenceIdeal.S8 .f32}
  (e0 : Holds x0 A0) (e1 : ∀ i j : Fin 256, x1 (ix3 0 i j) = A1 (ix3 0 i j))
  (e2 : ∀ (g : Fin 8) (n : Fin 256), x2 (ix2 (row g n) 0) = A2 (ix2 g n)) (hr : ∀ (g : Fin 8) (n : Fin 256), (A2 (ix2 g n)).toNat < 10)
  (e5 : ∀ d : Fin 256, x5 (ix2 0 d) = A5 (ix1 d)) (e8 : ∀ (l : Fin 3) (k : Fin 512), x8 (ix2 l k) = A8 (ix3 l 0 k))
  (e11 : ∀ c : Fin 128, x11 (ix2 0 c) = A11 (ix1 c)) (hb : ∃ b : ℝ, A13 (ix1 0) = (b : EReal))
  (e14 : ∀ c : Fin 128, x14 (ix2 0 c) = A15 (ix1 c)) (e16 : ∀ c : Fin 8, x16 (ix2 0 c) = A17 (ix1 c))

/-- The reference's adjacency mask at an edge is the mask of the block's entry. -/
theorem mask_meets (e1 : ∀ i j : Fin 256, x1 (ix3 0 i j) = A1 (ix3 0 i j)) (i j : Fin 256) :
    maskAt (View.ld x1 r0_2 (ix3 0 i j)) = val_main_v11 (F := Ideal) A1 (ix2 i j) := by
  rw [Ref.mask_apply, ldm, e1]

include e0 e2 hr e5 in
/-- After the embedding and the first linear map the rows agree. -/
theorem t0_holds : Holds (Kern.t0 x0 x2 x3 x4 x5 x6 x7) (val_main_v20 (F := Ideal) A0 A2 x3 x4 A5 x6 x7) := by
  rw [Ref.v20_eq, Kern.t0, ld_whole x0, ld_whole x2, ld_whole x3, ld_whole x4, ld_whole x5]
  exact lin_holds (emb_holds e0 e2 hr _ _ e5) (ldw0 x6) (ldb0 x7)

include e0 e1 e2 hr e5 e8

/-- After the first layer the rows agree. -/
theorem h0_holds : Holds (Kern.h0 x0 x1 x2 x3 x4 x5 x6 x7 x8 x9) (val_main_v52 (F := Ideal) A0 A1 A2 x3 x4 A5 x6 x7 A8 x9) :=
  att_holds (t0_holds e0 e2 hr e5) (mask_meets e1) (lda0 x8 A8 e8) (lda0' x8 A8 e8) (ldc0 x9)

/-- After the second layer the rows agree. -/
theorem h1_holds : Holds (Kern.h1 x0 x1 x2 x3 x4 x5 x6 x7 x8 x9) (val_main_v93 (F := Ideal) A0 A1 A2 x3 x4 A5 x6 x7 A8 x9) :=
  att_holds (T := val_main_v61 (F := Ideal) A0 A1 A2 x3 x4 A5 x6 x7 A8 x9)
    (lin_holds (h0_holds e0 e1 e2 hr e5 e8) (ldw1 x6) (ldb1 x7)) (mask_meets e1) (lda1 x8 A8 e8) (lda1' x8 A8 e8) (ldc1 x9)

/-- After the third layer the rows agree. -/
theorem h2_holds : Holds (Kern.h2 x0 x1 x2 x3 x4 x5 x6 x7 x8 x9) (val_main_v134 (F := Ideal) A0 A1 A2 x3 x4 A5 x6 x7 A8 x9) :=
  att_holds (T := val_main_v102 (F := Ideal) A0 A1 A2 x3 x4 A5 x6 x7 A8 x9)
    (lin_holds (h1_holds e0 e1 e2 hr e5 e8) (ldw2 x6) (ldb2 x7)) (mask_meets e1) (lda2 x8 A8 e8) (lda2' x8 A8 e8) (ldc2 x9)

include e11 hb

/-- The graphs' embeddings agree: the softmax forgets the finite bias that the kernel leaves out of the scores. -/
theorem ge_meets (g : Fin 8) (d : Fin 256) : Kern.ge x0 x1 x2 x3 x4 x5 x6 x7 x8 x9 x10 x11 x12 (ix2 g d)
    = val_main_v159 (F := Ideal) A0 A1 A2 x3 x4 A5 x6 x7 A8 x9 x10 A11 x12 A13 (ix2 g d) := by
  obtain ⟨b, hb⟩ := hb
  have e : val_main_v159 (F := Ideal) A0 A1 A2 x3 x4 A5 x6 x7 A8 x9 x10 A11 x12 A13
      = Ref.pool (Ref.psoft (Ref.pscore (val_main_v134 (F := Ideal) A0 A1 A2 x3 x4 A5 x6 x7 A8 x9) x10 A11 x12 A13))
          (val_main_v134 (F := Ideal) A0 A1 A2 x3 x4 A5 x6 x7 A8 x9) := rfl
  have hh := h2_holds (x3 := x3) (x4 := x4) (x6 := x6) (x7 := x7) (x9 := x9) e0 e1 e2 hr e5 e8
  rw [e, Kern.ge, Kern.pool_apply, Kern.poolRow_apply, Ref.pool_apply]
  refine Finset.sum_congr rfl fun n _ => ?_
  rw [Ref.psoft_apply, hh g n d, ld_whole x10, ld_whole x11, ld_whole x12]
  simp only [Ref.pscore_apply, hb, softAt_add, Kern.score_apply, hh g _ _, e11]

include e14 e16

/-- The classifier's scores agree. -/
theorem scores_meet (g c : Fin 8) : Kern.cls (Kern.ge x0 x1 x2 x3 x4 x5 x6 x7 x8 x9 x10 x11 x12) (View.ld x13 r0_21) (View.ld x14 r0_22)
      (View.ld x15 r0_23) (View.ld x16 r0_24) (ix2 g c)
    = val_main_v170 (F := Ideal) A0 A1 A2 x3 x4 A5 x6 x7 A8 x9 x10 A11 x12 A13 x13 A15 x15 A17 (ix2 g c) := by
  have e : val_main_v170 (F := Ideal) A0 A1 A2 x3 x4 A5 x6 x7 A8 x9 x10 A11 x12 A13 x13 A15 x15 A17
      = Ref.cls (val_main_v159 (F := Ideal) A0 A1 A2 x3 x4 A5 x6 x7 A8 x9 x10 A11 x12 A13) x13 A15 x15 A17 := rfl
  rw [e, Kern.cls_apply, Ref.cls_apply, ld_whole x13, ld_whole x14, ld_whole x15, ld_whole x16]
  simp only [ge_meets e0 e1 e2 hr e5 e8 e11 hb, e14, e16]

end Layers

end Gat.Meet
-- ==== Proof.KernelValue.lean ====
/- The kernel's run: its grid has one point, whose blocks are the arrays themselves (the adjacency's is its first graph), and before it
   the host lays seven arguments out anew. So the two result arrays are the body's values, which Meet.lean proves the reference's. -/
module

public import proofs.«01_k».proof.Proof.Meet
public import proofs.«01_k».proof.Proof.Gen.KernelIdeal.Value
public import Idealize.ShloMosaic.Lib.Claim

@[expose] public section

set_option maxRecDepth 16384

noncomputable section

namespace Gat.Run

open Cert.KernelIdeal Cert.KernelIdeal.Gen Cert.KernelIdeal.Value Idealize.ShloMosaic Idealize.ShloMosaic.TcCoe Idealize.SL.Sem
open Gat.Kern (row)

variable (m : (ℓ : Loc nD τ sig) → Buf (Elt Ideal) ℓ) (ρ : Dev nD → PrngReg) (c : Dev nD) (t : Fin cfg0.N)

/-- A block as large as its array, at block index zero on every axis, has the array's own indices. -/
theorem whole_emb {S : Shape} (f : S.Idx → S.Idx) (k : Fin S.rank → Nat) (hf : ∀ j a, (f j a).val = k a * S.size a + 1 * (j a).val)
    (hk : ∀ a, k a = 0) (j : S.Idx) : f j = j :=
  funext fun a => Fin.ext (by rw [hf, hk, Nat.zero_mul, Nat.one_mul, Nat.zero_add])

/-! ### Each input block but the adjacency's is its whole array as the region finds it -/

/-- The block of the stacked node features is the whole array. -/
theorem blk0 : (iblk m c 0 t : FVec Ideal S2048x256 .f32) = V m c main_call0_v0 :=
  funext fun j => congrArg (V m c main_call0_v0) (whole_emb (fun j : S2048x256.Idx => ((cfg0.win 0).blk t).view.emb j) (win0_0.index t)
    (fun _ _ => rfl) ((by decide +kernel : ∀ t : Fin grid0.N, ∀ a, win0_0.index t a = 0) t) j)
/-- The adjacency's block is the first graph's. -/
theorem blk1 (i j : Fin 256) : (iblk m c 1 t : FVec Ideal S1x256x256 .f32) (ix3 0 i j) = V m c main_arg1 (ix3 (0 : Fin 8) i j) := by
  have h := (by decide +kernel : ∀ t : Fin grid0.N, ∀ a, win0_1.index t a = 0) t
  refine congrArg (V m c main_arg1) (funext fun a => Fin.ext ?_)
  show win0_1.index t a * S1x256x256.size a + 1 * ((ix3 0 i j : S1x256x256.Idx) a).val = _
  rw [h, Nat.zero_mul, Nat.one_mul, Nat.zero_add]
  match a with
  | ⟨0, _⟩ => rfl
  | ⟨1, _⟩ => rfl
  | ⟨2, _⟩ => rfl
/-- The block of the stacked node types is the whole array. -/
theorem blk2 : (iblk m c 2 t : IVec S2048x1 32) = V m c main_call0_v1 :=
  funext fun j => congrArg (V m c main_call0_v1) (whole_emb (fun j : S2048x1.Idx => ((cfg0.win 2).blk t).view.emb j) (win0_2.index t)
    (fun _ _ => rfl) ((by decide +kernel : ∀ t : Fin grid0.N, ∀ a, win0_2.index t a = 0) t) j)
/-- The block of the embedding table is the whole array. -/
theorem blk3 : (iblk m c 3 t : FVec Ideal S10x256 .f32) = V m c main_arg3 :=
  funext fun j => congrArg (V m c main_arg3) (whole_emb (fun j : S10x256.Idx => ((cfg0.win 3).blk t).view.emb j) (win0_3.index t)
    (fun _ _ => rfl) ((by decide +kernel : ∀ t : Fin grid0.N, ∀ a, win0_3.index t a = 0) t) j)
/-- The block of the projection's weights is the whole array. -/
theorem blk4 : (iblk m c 4 t : FVec Ideal S256x256 .f32) = V m c main_arg4 :=
  funext fun j => congrArg (V m c main_arg4) (whole_emb (fun j : S256x256.Idx => ((cfg0.win 4).blk t).view.emb j) (win0_4.index t)
    (fun _ _ => rfl) ((by decide +kernel : ∀ t : Fin grid0.N, ∀ a, win0_4.index t a = 0) t) j)
/-- The block of the projection's bias is the whole array. -/
theorem blk5 : (iblk m c 5 t : FVec Ideal S1x256 .f32) = V m c main_call0_v2 :=
  funext fun j => congrArg (V m c main_call0_v2) (whole_emb (fun j : S1x256.Idx => ((cfg0.win 5).blk t).view.emb j) (win0_5.index t)
    (fun _ _ => rfl) ((by decide +kernel : ∀ t : Fin grid0.N, ∀ a, win0_5.index t a = 0) t) j)
/-- The block of the linear maps' weights is the whole array. -/
theorem blk6 : (iblk m c 6 t : FVec Ideal S3x256x256 .f32) = V m c main_arg6 :=
  funext fun j => congrArg (V m c main_arg6) (whole_emb (fun j : S3x256x256.Idx => ((cfg0.win 6).blk t).view.emb j) (win0_6.index t)
    (fun _ _ => rfl) ((by decide +kernel : ∀ t : Fin grid0.N, ∀ a, win0_6.index t a = 0) t) j)
/-- The block of the linear maps' biases is the whole array. -/
theorem blk7 : (iblk m c 7 t : FVec Ideal S3x256 .f32) = V m c main_arg7 :=
  funext fun j => congrArg (V m c main_arg7) (whole_emb (fun j : S3x256.Idx => ((cfg0.win 7).blk t).view.emb j) (win0_7.index t)
    (fun _ _ => rfl) ((by decide +kernel : ∀ t : Fin grid0.N, ∀ a, win0_7.index t a = 0) t) j)
/-- The block of the attention weights is the whole array. -/
theorem blk8 : (iblk m c 8 t : FVec Ideal S3x512 .f32) = V m c main_call0_v3 :=
  funext fun j => congrArg (V m c main_call0_v3) (whole_emb (fun j : S3x512.Idx => ((cfg0.win 8).blk t).view.emb j) (win0_8.index t)
    (fun _ _ => rfl) ((by decide +kernel : ∀ t : Fin grid0.N, ∀ a, win0_8.index t a = 0) t) j)
/-- The block of the attention biases is the whole array. -/
theorem blk9 : (iblk m c 9 t : FVec Ideal S3x1 .f32) = V m c main_arg9 :=
  funext fun j => congrArg (V m c main_arg9) (whole_emb (fun j : S3x1.Idx => ((cfg0.win 9).blk t).view.emb j) (win0_9.index t)
    (fun _ _ => rfl) ((by decide +kernel : ∀ t : Fin grid0.N, ∀ a, win0_9.index t a = 0) t) j)
/-- The block of the pooling's first weights is the whole array. -/
theorem blk10 : (iblk m c 10 t : FVec Ideal S128x256 .f32) = V m c main_arg10 :=
  funext fun j => congrArg (V m c main_arg10) (whole_emb (fun j : S128x256.Idx => ((cfg0.win 10).blk t).view.emb j) (win0_10.index t)
    (fun _ _ => rfl) ((by decide +kernel : ∀ t : Fin grid0.N, ∀ a, win0_10.index t a = 0) t) j)
/-- The block of the pooling's first bias is the whole array. -/
theorem blk11 : (iblk m c 11 t : FVec Ideal S1x128 .f32) = V m c main_call0_v4 :=
  funext fun j => congrArg (V m c main_call0_v4) (whole_emb (fun j : S1x128.Idx => ((cfg0.win 11).blk t).view.emb j) (win0_11.index t)
    (fun _ _ => rfl) ((by decide +kernel : ∀ t : Fin grid0.N, ∀ a, win0_11.index t a = 0) t) j)
/-- The block of the pooling's second weights is the whole array. -/
theorem blk12 : (iblk m c 12 t : FVec Ideal S1x128 .f32) = V m c main_arg12 :=
  funext fun j => congrArg (V m c main_arg12) (whole_emb (fun j : S1x128.Idx => ((cfg0.win 12).blk t).view.emb j) (win0_12.index t)
    (fun _ _ => rfl) ((by decide +kernel : ∀ t : Fin grid0.N, ∀ a, win0_12.index t a = 0) t) j)
/-- The block of the classifier's first weights is the whole array. -/
theorem blk13 : (iblk m c 13 t : FVec Ideal S128x256 .f32) = V m c main_arg14 :=
  funext fun j => congrArg (V m c main_arg14) (whole_emb (fun j : S128x256.Idx => ((cfg0.win 13).blk t).view.emb j) (win0_13.index t)
    (fun _ _ => rfl) ((by decide +kernel : ∀ t : Fin grid0.N, ∀ a, win0_13.index t a = 0) t) j)
/-- The block of the classifier's first bias is the whole array. -/
theorem blk14 : (iblk m c 14 t : FVec Ideal S1x128 .f32) = V m c main_call0_v5 :=
  funext fun j => congrArg (V m c main_call0_v5) (whole_emb (fun j : S1x128.Idx => ((cfg0.win 14).blk t).view.emb j) (win0_14.index t)
    (fun _ _ => rfl) ((by decide +kernel : ∀ t : Fin grid0.N, ∀ a, win0_14.index t a = 0) t) j)
/-- The block of the classifier's second weights is the whole array. -/
theorem blk15 : (iblk m c 15 t : FVec Ideal S8x128 .f32) = V m c main_arg16 :=
  funext fun j => congrArg (V m c main_arg16) (whole_emb (fun j : S8x128.Idx => ((cfg0.win 15).blk t).view.emb j) (win0_15.index t)
    (fun _ _ => rfl) ((by decide +kernel : ∀ t : Fin grid0.N, ∀ a, win0_15.index t a = 0) t) j)
/-- The block of the classifier's second bias is the whole array. -/
theorem blk16 : (iblk m c 16 t : FVec Ideal S1x8 .f32) = V m c main_call0_v6 :=
  funext fun j => congrArg (V m c main_call0_v6) (whole_emb (fun j : S1x8.Idx => ((cfg0.win 16).blk t).view.emb j) (win0_16.index t)
    (fun _ _ => rfl) ((by decide +kernel : ∀ t : Fin grid0.N, ∀ a, win0_16.index t a = 0) t) j)

/-! ### The host's reshaped operands, as the region finds them -/

/-- The node features, the graphs stacked. -/
theorem op0 (g : Fin 8) (n k : Fin 256) : (V m c main_call0_v0 : FVec Ideal S2048x256 .f32) (ix2 (row g n) k)
    = m ((c : Thread nD τ).loc main_arg0) (ix3 g n k) := by
  entry_read
  refine shapeCast_apply (s := S8x256x256) (t := S2048x256) _ _ _ (ix3 g n k) ?_
  rw [Shape.rowMajor_val_three, Shape.rowMajor_val_two]
  show (g.val * 256 + n.val) * 256 + k.val = (256 * g.val + n.val) * 256 + k.val
  omega
/-- The node types, the graphs stacked. -/
theorem op2 (g : Fin 8) (n : Fin 256) : (V m c main_call0_v1 : IVec S2048x1 32) (ix2 (row g n) 0)
    = m ((c : Thread nD τ).loc main_arg2) (ix2 g n) := by
  entry_read
  refine shapeCast_apply (s := S8x256) (t := S2048x1) _ _ _ (ix2 g n) ?_
  rw [Shape.rowMajor_val_two, Shape.rowMajor_val_two]
  show g.val * 256 + n.val = (256 * g.val + n.val) * 1 + 0
  omega
/-- The projection's bias as a row. -/
theorem op5 (d : Fin 256) : (V m c main_call0_v2 : FVec Ideal S1x256 .f32) (ix2 0 d) = m ((c : Thread nD τ).loc main_arg5) (ix1 d) := by
  entry_read; pointwise
/-- The attention weights without their unit axis. -/
theorem op8 (l : Fin 3) (k : Fin 512) : (V m c main_call0_v3 : FVec Ideal S3x512 .f32) (ix2 l k)
    = m ((c : Thread nD τ).loc main_arg8) (ix3 l 0 k) := by
  entry_read; pointwise
/-- The pooling's first bias as a row. -/
theorem op11 (d : Fin 128) : (V m c main_call0_v4 : FVec Ideal S1x128 .f32) (ix2 0 d) = m ((c : Thread nD τ).loc main_arg11) (ix1 d) := by
  entry_read; pointwise
/-- The classifier's first bias as a row. -/
theorem op14 (d : Fin 128) : (V m c main_call0_v5 : FVec Ideal S1x128 .f32) (ix2 0 d) = m ((c : Thread nD τ).loc main_arg15) (ix1 d) := by
  entry_read; pointwise
/-- The classifier's second bias as a row. -/
theorem op16 (d : Fin 8) : (V m c main_call0_v6 : FVec Ideal S1x8 .f32) (ix2 0 d) = m ((c : Thread nD τ).loc main_arg17) (ix1 d) := by
  entry_read; pointwise

/-! ### Each output block is its whole array -/

/-- An index of the first result's block is that index of the array. -/
theorem emb17 (j : S8x8.Idx) : ((cfg0.win 17).blk t).view.emb j = j :=
  whole_emb (fun j : S8x8.Idx => ((cfg0.win 17).blk t).view.emb j) (win0_17.index t)
    (fun _ _ => rfl) ((by decide +kernel : ∀ t : Fin grid0.N, ∀ a, win0_17.index t a = 0) t) j
/-- An index of the second result's block is that index of the array. -/
theorem emb18 (j : S8x256.Idx) : ((cfg0.win 18).blk t).view.emb j = j :=
  whole_emb (fun j : S8x256.Idx => ((cfg0.win 18).blk t).view.emb j) (win0_18.index t)
    (fun _ _ => rfl) ((by decide +kernel : ∀ t : Fin grid0.N, ∀ a, win0_18.index t a = 0) t) j

/-! ### The two result arrays, as the reference's terms over the arguments -/

section Results
open Cert.ReferenceIdeal.Read
variable (hr : ∀ (g : Fin 8) (n : Fin 256), ((m ((c : Thread nD τ).loc main_arg2) : IVec S8x256 32) (ix2 g n)).toNat < 10)
  (hb : ∃ b : ℝ, (m ((c : Thread nD τ).loc main_arg13) : FVec Ideal S1 .f32) (ix1 0) = (b : EReal))

include hr hb

/-- The embeddings the body computes from its blocks are the reference's embeddings of the arguments. -/
theorem ge_eq (g : Fin 8) (d : Fin 256) :
        Kern.ge (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix2 g d)
            = val_main_v159 (F := Ideal) (m ((c : Thread nD τ).loc main_arg0)) (m ((c : Thread nD τ).loc main_arg1)) (m ((c : Thread nD
      τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD
      τ).loc main_arg9)) (m ((c : Thread nD τ).loc main_arg10)) (m ((c : Thread nD τ).loc main_arg11)) (m ((c : Thread nD τ).loc
      main_arg12)) (m ((c : Thread nD τ).loc main_arg13)) (ix2 g d) := by
  rw [blk0, blk2, blk3, blk4, blk5, blk6, blk7, blk8, blk9, blk10, blk11, blk12, V_main_arg3, V_main_arg4, V_main_arg6, V_main_arg7,
    V_main_arg9, V_main_arg10, V_main_arg12]
  exact Meet.ge_meets (op0 m c) (fun i j => (blk1 m c t i j).trans (by rw [V_main_arg1])) (op2 m c) hr (op5 m c) (op8 m c) (op11 m c) hb g d

/-- The scores the body computes from its blocks are the reference's scores of the arguments. -/
theorem scores_eq (g d : Fin 8) :
        Kern.cls (Kern.ge (iblk m c 0 t) (iblk m c 1 t) (iblk m c 2 t) (iblk m c 3 t) (iblk m c 4 t) (iblk m c 5 t) (iblk m c 6 t) (iblk m c
      7 t) (iblk m c 8 t) (iblk m c 9 t) (iblk m c 10 t) (iblk m c 11 t) (iblk m c 12 t)) (View.ld (iblk m c 13 t) r0_21) (View.ld (iblk m c
      14 t) r0_22)
        (View.ld (iblk m c 15 t) r0_23) (View.ld (iblk m c 16 t) r0_24) (ix2 g d)
            = val_main_v170 (F := Ideal) (m ((c : Thread nD τ).loc main_arg0)) (m ((c : Thread nD τ).loc main_arg1)) (m ((c : Thread nD
      τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD
      τ).loc main_arg9)) (m ((c : Thread nD τ).loc main_arg10)) (m ((c : Thread nD τ).loc main_arg11)) (m ((c : Thread nD τ).loc
      main_arg12)) (m ((c : Thread nD τ).loc main_arg13)) (m ((c : Thread nD τ).loc main_arg14)) (m ((c : Thread nD τ).loc main_arg15)) (m
      ((c : Thread nD τ).loc main_arg16)) (m ((c : Thread nD τ).loc main_arg17)) (ix2 g d) := by
  rw [blk0, blk2, blk3, blk4, blk5, blk6, blk7, blk8, blk9, blk10, blk11, blk12, blk13, blk14, blk15, blk16, V_main_arg3, V_main_arg4,
    V_main_arg6, V_main_arg7, V_main_arg9, V_main_arg10, V_main_arg12, V_main_arg14, V_main_arg16]
  exact Meet.scores_meet (op0 m c) (fun i j => (blk1 m c t i j).trans (by rw [V_main_arg1])) (op2 m c) hr (op5 m c) (op8 m c) (op11 m c) hb
    (op14 m c) (op16 m c) g d

/-- After the run the second result array is the reference's embeddings. -/
theorem final18 : (dats m 0 c).arrAt 18 cfg0.N = val_main_v159 (F := Ideal) (m ((c : Thread nD τ).loc main_arg0)) (m ((c : Thread nD τ).loc
    main_arg1)) (m ((c : Thread nD τ).loc main_arg2)) (m ((c : Thread nD τ).loc main_arg3)) (m ((c : Thread nD τ).loc main_arg4)) (m ((c :
    Thread nD τ).loc main_arg5)) (m ((c : Thread nD τ).loc main_arg6)) (m ((c : Thread nD τ).loc main_arg7)) (m ((c : Thread nD τ).loc
    main_arg8)) (m ((c : Thread nD τ).loc main_arg9)) (m ((c : Thread nD τ).loc main_arg10)) (m ((c : Thread nD τ).loc main_arg11)) (m ((c :
    Thread nD τ).loc main_arg12)) (m ((c : Thread nD τ).loc main_arg13)) := by
  funext j
  have t : Fin cfg0.N := ⟨0, by decide⟩
  have h := congrFun (blocks18 m c t (flush0_18 t)) j
  rw [flushed18] at h
  have h' : (dats m 0 c).arrAt 18 cfg0.N (((cfg0.win 18).blk t).view.emb j) = out0_18 (iblk m c 0 t) (iblk m c 1 t) (iblk m c 2 t) (iblk m
    c 3 t) (iblk m c 4 t) (iblk m c 5 t) (iblk m c 6 t) (iblk m c 7 t) (iblk m c 8 t) (iblk m c 9 t) (iblk m c 10 t) (iblk m c 11 t) (iblk m
    c 12 t) (iblk m c 13 t) (iblk m c 14 t) (iblk m c 15 t) (iblk m c 16 t) j := h
  rw [emb18] at h'
  rw [h', Kern.out18_eq, View.canon_unit_zero (funext fun i => by match i with | ⟨0, _⟩ => rfl | ⟨1, _⟩ => rfl)]
  exact (congrArg _ (eq_ix2 j)).trans ((ge_eq m c t hr hb (j 0) (j 1)).trans (congrArg _ (eq_ix2 j)).symm)

/-- After the run the first result array is the reference's scores. -/
theorem final17 : (dats m 0 c).arrAt 17 cfg0.N = val_main_v170 (F := Ideal) (m ((c : Thread nD τ).loc main_arg0)) (m ((c : Thread nD τ).loc
    main_arg1)) (m ((c : Thread nD τ).loc main_arg2)) (m ((c : Thread nD τ).loc main_arg3)) (m ((c : Thread nD τ).loc main_arg4)) (m ((c :
    Thread nD τ).loc main_arg5)) (m ((c : Thread nD τ).loc main_arg6)) (m ((c : Thread nD τ).loc main_arg7)) (m ((c : Thread nD τ).loc
    main_arg8)) (m ((c : Thread nD τ).loc main_arg9)) (m ((c : Thread nD τ).loc main_arg10)) (m ((c : Thread nD τ).loc main_arg11)) (m ((c :
    Thread nD τ).loc main_arg12)) (m ((c : Thread nD τ).loc main_arg13)) (m ((c : Thread nD τ).loc main_arg14)) (m ((c : Thread nD τ).loc
    main_arg15)) (m ((c : Thread nD τ).loc main_arg16)) (m ((c : Thread nD τ).loc main_arg17)) := by
  funext j
  have t : Fin cfg0.N := ⟨0, by decide⟩
  have h := congrFun (blocks17 m c t (flush0_17 t)) j
  rw [flushed17] at h
  have h' : (dats m 0 c).arrAt 17 cfg0.N (((cfg0.win 17).blk t).view.emb j) = out0_17 (iblk m c 0 t) (iblk m c 1 t) (iblk m c 2 t) (iblk m
    c 3 t) (iblk m c 4 t) (iblk m c 5 t) (iblk m c 6 t) (iblk m c 7 t) (iblk m c 8 t) (iblk m c 9 t) (iblk m c 10 t) (iblk m c 11 t) (iblk m
    c 12 t) (iblk m c 13 t) (iblk m c 14 t) (iblk m c 15 t) (iblk m c 16 t) j := h
  rw [emb17] at h'
  rw [h', Kern.out17_eq, View.canon_unit_zero (funext fun i => by match i with | ⟨0, _⟩ => rfl | ⟨1, _⟩ => rfl)]
  exact (congrArg _ (eq_ix2 j)).trans ((scores_eq m c t hr hb (j 0) (j 1)).trans (congrArg _ (eq_ix2 j)).symm)

end Results

end Gat.Run
-- ==== Proof.Pre.lean ====
/- What the precondition says, read off its printed text. -/
module

public import proofs.«01_k».proof.Pre_in_range
public import proofs.«01_k».proof.Proof.Math
public import Idealize.ShloMosaic.Lib.Pointwise
public import Idealize.ShloMosaic.Lib.StableHlo.Predicate

@[expose] public section

set_option maxRecDepth 16384

noncomputable section

namespace Gat.Pre

open Cert.Pre_in_range Idealize.ShloMosaic Idealize.SL.Sem

/-- The shape conditions that the precondition's operations take hold. -/
theorem facts : Cert.Pre_in_range.Facts where
  bcast_S_S8x256 := by decide
  bcast_S_S1 := by decide
  bcast_S1_S1x1_1 := by decide
  bcast_S1x1_S8x256_0_1 := by decide

attribute [local instance] facts

/-- A bit that is the conjunction of two is one where both are. -/
theorem and_one {a b : BitVec 1} (h : a &&& b = 1#1) : a = 1#1 ∧ b = 1#1 := by
  revert a b; decide

/-- The bit of a condition is one only where the condition holds. -/
theorem of_bit {b : Bool} (h : BitVec.ofBool b = 1#1) : b = true := by cases b <;> simp_all

/-- A word that is, signed, at least zero and below ten is a number below ten. -/
theorem toNat_lt {w : BitVec 32} (h0 : IntOp.cmpi .sge w 0#32 = 1#1) (h1 : IntOp.cmpi .slt w 10#32 = 1#1) : w.toNat < 10 := by
  have e0 : (0#32).sle w = true := of_bit h0
  have e1 : w.slt 10#32 = true := of_bit h1
  simp only [BitVec.sle, BitVec.slt, decide_eq_true_eq] at e0 e1
  have t10 : (10#32 : BitVec 32).toInt = 10 := by decide
  have t0 : (0#32 : BitVec 32).toInt = 0 := by decide
  rw [t10] at e1; rw [t0] at e0
  rw [BitVec.toInt_eq_toNat_cond] at e0 e1
  split at e0 <;> simp_all <;> omega

/-- An extended real whose absolute value is below infinity is a real number. -/
theorem real_of_abs {x : EReal} (h : FloatOps.cmpf (F := Ideal) (φ := .f32) .olt (FloatOps.absf (F := Ideal) (φ := .f32) x) (FloatOps.ofBits .f32 0x7F800000#32) = 1#1) :
    ∃ b : ℝ, x = (b : EReal) := by
  have h : max x (-x) < Ideal.ofBits .f32 0x7F800000#32 := of_decide_eq_true (of_bit h)
  rw [ofBits_posInf] at h
  induction x with
  | bot => simp at h
  | top => simp at h
  | coe b => exact ⟨b, rfl⟩

/-- What the precondition says of the arguments: every node type is below ten, and the pooling bias is a real number. -/
theorem reads (a0 a1 : FVec Ideal S8x256x256 .f32) (a2 : IVec S8x256 32) (a3 : FVec Ideal S10x256 .f32) (a4 : FVec Ideal S256x256 .f32)
    (a5 : FVec Ideal S256 .f32) (a6 : FVec Ideal S3x256x256 .f32) (a7 : FVec Ideal S3x256 .f32) (a8 : FVec Ideal S3x1x512 .f32)
    (a9 : FVec Ideal S3x1 .f32) (a10 : FVec Ideal S128x256 .f32) (a11 : FVec Ideal S128 .f32) (a12 : FVec Ideal S1x128 .f32)
    (a13 : FVec Ideal S1 .f32) (a14 : FVec Ideal S128x256 .f32) (a15 : FVec Ideal S128 .f32) (a16 : FVec Ideal S8x128 .f32) (a17 : FVec Ideal S8 .f32)
    (h : fn (F := Ideal) a0 a1 a2 a3 a4 a5 a6 a7 a8 a9 a10 a11 a12 a13 a14 a15 a16 a17 = fun _ => 1#1) :
    (∀ (g : Fin 8) (n : Fin 256), (a2 (ix2 g n)).toNat < 10) ∧ ∃ b : ℝ, a13 (ix1 0) = (b : EReal) := by
  have e : ∀ (g : Fin 8) (n : Fin 256), fn (F := Ideal) a0 a1 a2 a3 a4 a5 a6 a7 a8 a9 a10 a11 a12 a13 a14 a15 a16 a17 (ix2 g n)
      = ((IntOp.cmpi .sge (a2 (ix2 g n)) 0#32 &&& IntOp.cmpi .slt (a2 (ix2 g n)) 10#32)
        &&& FloatOps.cmpf (F := Ideal) (φ := .f32) .olt (FloatOps.absf (F := Ideal) (φ := .f32) (a13 (ix1 0))) (FloatOps.ofBits .f32 0x7F800000#32)) := by
    intro g n
    pointwise [fn]
    rfl
  have k := fun g n => and_one ((e g n).symm.trans (congrFun h (ix2 g n)))
  exact ⟨fun g n => toNat_lt (and_one (k g n).1).1 (and_one (k g n).1).2, real_of_abs (k 0 0).2⟩

end Gat.Pre
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelValue
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.SL.Sem

attribute [local instance] Gat.Pre.facts

/-- The reference terminates without a fault, keeps its arguments and, having no semaphore, ends with every counter at zero. -/
theorem reference_frame : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- From memories that hold the same arguments, and within the precondition, the kernel's runs and the reference's end with the same
    scores and the same embeddings. -/
theorem same_results : Cert.algebraic_KernelIdeal_ReferenceIdeal_pre_in_range := by
  intro m g m' g' hp hm
  have hk := fun c => Gat.Pre.reads _ _ _ _ _ _ _ _ _ _ _ _ _ _ _ _ _ _ (hp c)
  refine ⟨fun c => (Cert.KernelIdeal.Gen.dats m 0 c).arrAt 17 Cert.KernelIdeal.cfg0.N,
    fun c => (Cert.KernelIdeal.Gen.dats m 0 c).arrAt 18 Cert.KernelIdeal.cfg0.N, Cert.KernelIdeal.Value.run_blocks m g, ?_⟩
  refine (θ_run Cert.ReferenceIdeal.defs _ _).mono (fun r h c => ⟨?_, ?_, (h c).2.2⟩)
    (Cert.ReferenceIdeal.Value.run (F := Ideal) m' g')
  · refine ((h c).1.trans (Cert.ReferenceIdeal.Read.val_main_v170_eq _)).trans ?_
    obtain ⟨e0, e1, e2, e3, e4, e5, e6, e7, e8, e9, e10, e11, e12, e13, e14, e15, e16, e17⟩ := hm c
    simp only [StableHlo.launchContents_devRef, e0, e1, e2, e3, e4, e5, e6, e7, e8, e9, e10, e11, e12, e13, e14, e15, e16, e17]
    exact (Gat.Run.final17 m c (hk c).1 (hk c).2).symm
  · refine ((h c).2.1.trans (Cert.ReferenceIdeal.Read.val_main_v159_eq _)).trans ?_
    obtain ⟨e0, e1, e2, e3, e4, e5, e6, e7, e8, e9, e10, e11, e12, e13, e14, e15, e16, e17⟩ := hm c
    simp only [StableHlo.launchContents_devRef, e0, e1, e2, e3, e4, e5, e6, e7, e8, e9, e10, e11, e12, e13, e14, e15, e16, e17]
    exact (Gat.Run.final18 m c (hk c).1 (hk c).2).symm

/-- Everything the certificate claims. -/
theorem claim : Cert.Claim := ⟨Cert.Kernel.Gen.facts, Cert.KernelIdeal.Gen.facts, Cert.ReferenceIdeal.Gen.facts, Gat.Pre.facts,
  fun m g _ => Cert.Kernel.Gen.frame m g, fun m g _ => Cert.KernelIdeal.Gen.frame m g, fun m g _ => Cert.KernelIdeal.Gen.frame m g,
  reference_frame, fun m g _ => reference_frame m g trivial, trivial, same_results⟩

end Cert.Proof

end
